-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "gelu_ck" .f32 0x3D122279#32 ((35677408136300126361 / 1000000000000000000000 : ℝ) : EReal)
  ∧ IdealRules.named_const.Statement Cert.KernelIdeal.κ "gelu_c" .f32 0x3F4C422A#32 ((3989422804014327 / 5000000000000000 : ℝ) : EReal)
  ∧ IdealRules.named_const.Statement Cert.KernelIdeal.κ "gelu_3ck" .f32 0x3DDB33B6#32 ((107032224408900379083 / 1000000000000000000000 : ℝ) : EReal)

def preserves_Reference_ReferenceIdeal : Prop :=
  IdealRules.named_const.Statement Cert.ReferenceIdeal.κ "gelu_k" .f32 0x3D372713#32 ((8943 / 200000 : ℝ) : EReal)
  ∧ IdealRules.named_const.Statement Cert.ReferenceIdeal.κ "gelu_c" .f32 0x3F4C422A#32 ((3989422804014327 / 5000000000000000 : ℝ) : EReal)
  ∧ IdealRules.named_const.Statement Cert.ReferenceIdeal.κ "gelu_3k" .f32 0x3E095D4F#32 ((26829 / 200000 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x2880 : Shape := ⟨3, ![8, 4096, 2880]⟩
abbrev S8x4096x90 : Shape := ⟨3, ![8, 4096, 90]⟩
abbrev S_ : Shape := ⟨0, ![]⟩

class Facts : Prop where
  bcast_S_S8x4096x90 : S_.BroadcastsInDim S8x4096x90 (![] : Fin 0 → Fin S8x4096x90.rank)
  reducesTo_S8x4096x90_S_d0_1_2 : S8x4096x90.ReducesTo [0, 1, 2] S_
  h_S_ : 0 < S_.numel

variable [Facts]

def fn {F : FTy → Type} [FloatOps F] (main_arg0 : FVec F S8x4096x2880 .fp8e4m3) (main_arg1 : IVec S8x4096x90 8) (main_arg2 : FVec F S8x4096x2880 .bf16) : IVec S_ 1 :=
  let main_c : IVec S_ 8 := constantI S_ 8 1#8
  let main_v0 : IVec S8x4096x90 8 := broadcastInDim S8x4096x90 ![] bcast_S_S8x4096x90 main_c
  let main_v1 : IVec S8x4096x90 1 := cmpi .uge main_arg1 main_v0
  let main_c_0 : IVec S_ 8 := constantI S_ 8 254#8
  let main_v2 : IVec S8x4096x90 8 := broadcastInDim S8x4096x90 ![] bcast_S_S8x4096x90 main_c_0
  let main_v3 : IVec S8x4096x90 1 := cmpi .ule main_arg1 main_v2
  let main_v4 : IVec S8x4096x90 1 := andi main_v1 main_v3
  let main_c_1 : IVec S_ 1 := constantI S_ 1 1#1
  let main_v5 : IVec S_ 1 := (fun x v => Host.reduce IntOp.andi x v reducesTo_S8x4096x90_S_d0_1_2 h_S_) main_v4 main_c_1
  main_v5
-- ==== Kernel.lean ====
abbrev S8x4096x2880 : Shape := ⟨3, ![8, 4096, 2880]⟩
abbrev S8x4096x90 : Shape := ⟨3, ![8, 4096, 90]⟩
abbrev S90 : Shape := ⟨1, ![90]⟩
abbrev S90x1 : Shape := ⟨2, ![90, 1]⟩
abbrev S2880 : Shape := ⟨1, ![2880]⟩
abbrev S1x2880 : Shape := ⟨2, ![1, 2880]⟩
abbrev S_ : Shape := ⟨0, ![]⟩
abbrev S90x2880 : Shape := ⟨2, ![90, 2880]⟩
abbrev S8x2880x4096 : Shape := ⟨3, ![8, 2880, 4096]⟩
abbrev S8x2880x128 : Shape := ⟨3, ![8, 2880, 128]⟩
abbrev S1x256x2880 : Shape := ⟨3, ![1, 256, 2880]⟩
abbrev S1x256x90 : Shape := ⟨3, ![1, 256, 90]⟩
abbrev S1x2880x256 : Shape := ⟨3, ![1, 2880, 256]⟩
abbrev S1x2880x128 : Shape := ⟨3, ![1, 2880, 128]⟩
abbrev S128x2880 : Shape := ⟨2, ![128, 2880]⟩
abbrev S256x90 : Shape := ⟨2, ![256, 90]⟩
abbrev S90x128 : Shape := ⟨2, ![90, 128]⟩
abbrev S256x128 : Shape := ⟨2, ![256, 128]⟩
abbrev S1x256x128 : Shape := ⟨3, ![1, 256, 128]⟩
abbrev S8x32x128 : Shape := ⟨3, ![8, 32, 128]⟩
abbrev S8x128 : Shape := ⟨2, ![8, 128]⟩
abbrev S8x1x128 : Shape := ⟨3, ![8, 1, 128]⟩
abbrev S128x256 : Shape := ⟨2, ![128, 256]⟩
abbrev S1x128x256 : Shape := ⟨3, ![1, 128, 256]⟩
abbrev S90x64 : Shape := ⟨2, ![90, 64]⟩
abbrev S256x64 : Shape := ⟨2, ![256, 64]⟩
abbrev S1x256x64 : Shape := ⟨3, ![1, 256, 64]⟩
abbrev S8x32x64 : Shape := ⟨3, ![8, 32, 64]⟩
abbrev S8x64 : Shape := ⟨2, ![8, 64]⟩
abbrev S8x1x64 : Shape := ⟨3, ![8, 1, 64]⟩
abbrev S64x256 : Shape := ⟨2, ![64, 256]⟩
abbrev S1x64x256 : Shape := ⟨3, ![1, 64, 256]⟩
abbrev S2880x128 : Shape := ⟨2, ![2880, 128]⟩

abbrev nBuf : Space → Nat
  | .hbm => 31
  | .vmem => 12
  | .smem => 0
  | _ => 0

abbrev bufTy : (tb : Table) → Fin (tcTables nBuf tb) → BufTy
  | .hbm, ⟨0, _⟩ => ⟨S8x4096x2880, .fp8e4m3⟩
  | .hbm, ⟨1, _⟩ => ⟨S8x4096x90, .i8⟩
  | .hbm, ⟨2, _⟩ => ⟨S8x4096x2880, .bf16⟩
  | .hbm, ⟨3, _⟩ => ⟨S90, .i32⟩
  | .hbm, ⟨4, _⟩ => ⟨S90x1, .i32⟩
  | .hbm, ⟨5, _⟩ => ⟨S2880, .i32⟩
  | .hbm, ⟨6, _⟩ => ⟨S1x2880, .i32⟩
  | .hbm, ⟨7, _⟩ => ⟨S_, .i32⟩
  | .hbm, ⟨8, _⟩ => ⟨S_, .i32⟩
  | .hbm, ⟨9, _⟩ => ⟨S1x2880, .i32⟩
  | .hbm, ⟨10, _⟩ => ⟨S1x2880, .i32⟩
  | .hbm, ⟨11, _⟩ => ⟨S1x2880, .i32⟩
  | .hbm, ⟨12, _⟩ => ⟨S_, .i32⟩
  | .hbm, ⟨13, _⟩ => ⟨S1x2880, .i32⟩
  | .hbm, ⟨14, _⟩ => ⟨S1x2880, .i1⟩
  | .hbm, ⟨15, _⟩ => ⟨S1x2880, .i32⟩
  | .hbm, ⟨16, _⟩ => ⟨S1x2880, .i32⟩
  | .hbm, ⟨17, _⟩ => ⟨S_, .i32⟩
  | .hbm, ⟨18, _⟩ => ⟨S1x2880, .i32⟩
  | .hbm, ⟨19, _⟩ => ⟨S1x2880, .i1⟩
  | .hbm, ⟨20, _⟩ => ⟨S1x2880, .i1⟩
  | .hbm, ⟨21, _⟩ => ⟨S_, .i32⟩
  | .hbm, ⟨22, _⟩ => ⟨S1x2880, .i32⟩
  | .hbm, ⟨23, _⟩ => ⟨S1x2880, .i32⟩
  | .hbm, ⟨24, _⟩ => ⟨S1x2880, .i32⟩
  | .hbm, ⟨25, _⟩ => ⟨S90x2880, .i32⟩
  | .hbm, ⟨26, _⟩ => ⟨S90x2880, .i32⟩
  | .hbm, ⟨27, _⟩ => ⟨S90x2880, .i1⟩
  | .hbm, ⟨28, _⟩ => ⟨S90x2880, .bf16⟩
  | .hbm, ⟨29, _⟩ => ⟨S8x2880x4096, .fp8e4m3⟩
  | .hbm, ⟨30, _⟩ => ⟨S8x2880x128, .i8⟩
  | .local _ .vmem, ⟨0, _⟩ => ⟨S1x256x2880, .fp8e4m3⟩
  | .local _ .vmem, ⟨1, _⟩ => ⟨S1x256x2880, .fp8e4m3⟩
  | .local _ .vmem, ⟨2, _⟩ => ⟨S1x256x90, .i8⟩
  | .local _ .vmem, ⟨3, _⟩ => ⟨S1x256x90, .i8⟩
  | .local _ .vmem, ⟨4, _⟩ => ⟨S1x256x2880, .bf16⟩
  | .local _ .vmem, ⟨5, _⟩ => ⟨S1x256x2880, .bf16⟩
  | .local _ .vmem, ⟨6, _⟩ => ⟨S90x2880, .bf16⟩
  | .local _ .vmem, ⟨7, _⟩ => ⟨S1x2880x256, .fp8e4m3⟩
  | .local _ .vmem, ⟨8, _⟩ => ⟨S1x2880x256, .fp8e4m3⟩
  | .local _ .vmem, ⟨9, _⟩ => ⟨S1x2880x128, .i8⟩
  | .local _ .vmem, ⟨10, _⟩ => ⟨S1x2880x128, .i8⟩
  | .local _ .vmem, ⟨11, _⟩ => ⟨S128x2880, .i32⟩
  | _, _ => ⟨S8x4096x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c22_i32 : BitVec 32 := 22#32
  let v7 : BitVec 32 := Scalar.addi c0_i32 c22_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32_50 : BitVec 32 := 128#32
  let v155 : BitVec 32 := Scalar.muli arg9 c128_i32_50
  v155
def k0_off1 (k0_t1 : Fin k0_t1_loop.trips) : Fin 2 → Nat :=
  let c0_51 : Index := 0#32
  let c0_i32 : BitVec 32 := 0#32
  let c1_i32 : BitVec 32 := 1#32
  let arg9 : BitVec 32 := Scf.iv c0_i32 c1_i32 k0_t1
  let c128_i32_50 : BitVec 32 := 128#32
  let v155 : BitVec 32 := Scalar.muli arg9 c128_i32_50
  let v156 : BitVec 32 := v155
  let v157 : Index := Scalar.indexCast v156
  ![0, v157.toNat]
def k0_off2 (k0_t1 : Fin k0_t1_loop.trips) : Fin 3 → Nat :=
  let c0_53 : Index := 0#32
  let c0_54 : Index := 0#32
  let c0_i32 : BitVec 32 := 0#32
  let c1_i32 : BitVec 32 := 1#32
  let arg9 : BitVec 32 := Scf.iv c0_i32 c1_i32 k0_t1
  let c128_i32_50 : BitVec 32 := 128#32
  let v155 : BitVec 32 := Scalar.muli arg9 c128_i32_50
  let v156 : BitVec 32 := v155
  let v161 : Index := Scalar.indexCast v156
  ![0, 0, v161.toNat]
def k0_off3 (k0_t1 : Fin k0_t1_loop.trips) : Fin 3 → Nat :=
  let c0_100 : Index := 0#32
  let c0_i32 : BitVec 32 := 0#32
  let c1_i32 : BitVec 32 := 1#32
  let arg9 : BitVec 32 := Scf.iv c0_i32 c1_i32 k0_t1
  let c128_i32_50 : BitVec 32 := 128#32
  let v155 : BitVec 32 := Scalar.muli arg9 c128_i32_50
  let v156 : BitVec 32 := v155
  let v294 : Index := Scalar.indexCast v156
  let c0_101 : Index := 0#32
  ![0, v294.toNat, 0]
def k0_off4 (i : grid0.Coords) (k0_t1 : Fin k0_t1_loop.trips) : Fin 2 → Nat :=
  let arg1 : BitVec 32 := BitVec.ofNat 32 (i 1).val
  let c8_i32_103 : BitVec 32 := 8#32
  let v300 : BitVec 32 := Scalar.muli arg1 c8_i32_103
  let v301 : Index := Scalar.indexCast v300
  let c0_i32 : BitVec 32 := 0#32
  let c1_i32 : BitVec 32 := 1#32
  let arg9 : BitVec 32 := Scf.iv c0_i32 c1_i32 k0_t1
  let c128_i32_50 : BitVec 32 := 128#32
  let v155 : BitVec 32 := Scalar.muli arg9 c128_i32_50
  let v156 : BitVec 32 := v155
  let v302 : Index := Scalar.indexCast v156
  ![v301.toNat, v302.toNat]
def k0_off5 (i : grid0.Coords) : Fin 2 → Nat :=
  let arg1 : BitVec 32 := BitVec.ofNat 32 (i 1).val
  let c8_i32_47 : BitVec 32 := 8#32
  let v147 : BitVec 32 := Scalar.muli arg1 c8_i32_47
  let v148 : Index := Scalar.indexCast v147
  let c2816_48 : Index := 2816#32
  ![v148.toNat, 2816]
def k0_cond1 (i : grid0.Coords) : BitVec 1 :=
  let arg1 : BitVec 32 := BitVec.ofNat 32 (i 1).val
  let c15_i32 : BitVec 32 := 15#32
  let v152 : BitVec 1 := Scalar.cmpi .eq arg1 c15_i32
  let v153 : BitVec 32 := Scalar.extui v152
  let c0_i32_49 : BitVec 32 := 0#32
  let v154 : BitVec 1 := Scalar.cmpi .ne v153 c0_i32_49
  v154

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2880 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x90 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2880 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S90x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2880x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2880x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "gelu_3ck" => some ((107032224408900379083 / 1000000000000000000000 : ℝ) : EReal)
  | "gelu_3k" => some ((26829 / 200000 : ℝ) : EReal)
  | "gelu_c" => some ((3989422804014327 / 5000000000000000 : ℝ) : EReal)
  | "gelu_ck" => some ((35677408136300126361 / 1000000000000000000000 : ℝ) : EReal)
  | "gelu_k" => some ((8943 / 200000 : ℝ) : EReal)
  | _ => none
-- ==== ReferenceIdeal.lean ====
variable {F : FTy → Type} [FloatOps F] [Named F]
def κ : String → Option EReal := fun
  | "gelu_3ck" => some ((107032224408900379083 / 1000000000000000000000 : ℝ) : EReal)
  | "gelu_3k" => some ((26829 / 200000 : ℝ) : EReal)
  | "gelu_c" => some ((3989422804014327 / 5000000000000000 : ℝ) : EReal)
  | "gelu_ck" => some ((35677408136300126361 / 1000000000000000000000 : ℝ) : EReal)
  | "gelu_k" => some ((8943 / 200000 : ℝ) : EReal)
  | _ => none
-- ==== Reference.lean ====
abbrev S8x4096x2880 : Shape := ⟨3, ![8, 4096, 2880]⟩
abbrev S8x4096x90 : Shape := ⟨3, ![8, 4096, 90]⟩
abbrev S8x2880x4096 : Shape := ⟨3, ![8, 2880, 4096]⟩
abbrev S8x2880x128 : Shape := ⟨3, ![8, 2880, 128]⟩
abbrev S8x4096x90x32 : Shape := ⟨4, ![8, 4096, 90, 32]⟩
abbrev S8x4096x90x1 : Shape := ⟨4, ![8, 4096, 90, 1]⟩
abbrev S8x2880x128x32 : Shape := ⟨4, ![8, 2880, 128, 32]⟩
abbrev S8x2880x128x1 : Shape := ⟨4, ![8, 2880, 128, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x2880, .fp8e4m3⟩
  | .hbm, ⟨1, _⟩ => ⟨S8x4096x90, .i8⟩
  | .hbm, ⟨2, _⟩ => ⟨S8x4096x2880, .bf16⟩
  | .hbm, ⟨3, _⟩ => ⟨S8x2880x4096, .fp8e4m3⟩
  | .hbm, ⟨4, _⟩ => ⟨S8x2880x128, .i8⟩
  | .local _ .vmem, ⟨0, _⟩ => ⟨S8x4096x2880, .fp8e4m3⟩
  | .local _ .vmem, ⟨1, _⟩ => ⟨S8x4096x90, .i8⟩
  | .local _ .vmem, ⟨2, _⟩ => ⟨S8x4096x2880, .bf16⟩
  | .local _ .vmem, ⟨3, _⟩ => ⟨S8x2880x4096, .fp8e4m3⟩
  | .local _ .vmem, ⟨4, _⟩ => ⟨S8x2880x128, .i8⟩
  | _, _ => ⟨S8x4096x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c252_i32 : BitVec 32 := 252#32
  let v50 : BitVec 32 := Scalar.addi c0_i32 c252_i32
  let c1_i32 : BitVec 32 := 1#32
  ⟨c0_i32, v50, c1_i32⟩
abbrev stage0_0 : Fin 1 → Memref sig .tc .vmem S8x4096x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x90 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x2880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2880x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2880x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KRuns.lean ====
/- What the runs of the frame of `proofs.«01_k».proof.Kernel` share: the frame kit, the branch conditions in closed
   form, the staging and scratch memrefs. A copy, kept by hand, of a generated module (see `KFrame`). -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 15 (mod 16) — by arithmetic of the point. -/
theorem hcond0_0 : ∀ t : Fin cfg0.N, cond0_0 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x2880 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x90 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x2880 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2880x128 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x2880 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KRunA.lean ====
/- The run of the body of `proofs.«01_k».proof.Kernel` at the points that do not end an image. A copy, kept by hand, of
   a generated module (see `KFrame`). -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 not taken: points 0, 1, … 126: 120 of 128): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : ¬cond0_0 i)
    (x0 : Vec F S1x256x2880 .fp8e4m3) (x1 : Vec F S1x256x90 .i8) (x2 : Vec F S1x256x2880 .bf16) (x3 : Vec F S90x2880 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dgelu_row_to_col i arg2 harg2 arg3 harg3 arg4 harg4 arg5 harg5 arg6 harg6 arg7 harg7 arg8 harg8) K := by
    intro E K
    simp only [cc0_dgelu_row_to_col_eq_skeleton]; unfold cc0_dgelu_row_to_col_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Gen

end
-- ==== Proof.KRunB.lean ====
/- The run of the body of `proofs.«01_k».proof.Kernel` at the last point of an image. A copy, kept by hand, of a
   generated module (see `KFrame`). -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 taken: points 15, 31, … 127: 8 of 128): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : cond0_0 i)
    (x0 : Vec F S1x256x2880 .fp8e4m3) (x1 : Vec F S1x256x90 .i8) (x2 : Vec F S1x256x2880 .bf16) (x3 : Vec F S90x2880 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_dgelu_row_to_col i arg2 harg2 arg3 harg3 arg4 harg4 arg5 harg5 arg6 harg6 arg7 harg7 arg8 harg8) K := by
    intro E K
    simp only [cc0_dgelu_row_to_col_eq_skeleton]; unfold cc0_dgelu_row_to_col_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Gen

end
-- ==== Proof.KFrame.lean ====
/- The frame of `proofs.«01_k».proof.Kernel`, with what the two output windows hold left unnamed. This module and
   `KRuns`, `KRunA`, `KRunB` are copies, kept by hand, of modules that the generator writes for this program when only
   frames are claimed; with the value claim it writes the frame kit alone. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 128 := lt_of_lt_of_eq t.isLt (show cfg0.N = 128 from N_0)
  by_cases h0 : t.val % 16 = 15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Body.lean ====
/- The body of the kernel at one grid point: what its stores leave in the code block, in the exponent scratch
   and, at the last point of an image, in the scale block, as lists of pieces found by running it. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 15 (mod 16) — by arithmetic of the point. -/
theorem hcond0_0 : ∀ t : Fin cfg0.N, cond0_0 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x256x2880 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x90 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x2880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x2880 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2880x128 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S128x2880 .i32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at a point other than the last of an image: on whole staging memrefs, the inputs' at their contents and the
    scratch at `s`, it runs to the inputs as they were, the code block with the pieces `L6` written, the scratch with the
    pieces `L8` written and the scale block untouched. The lists are the run's own finds. -/
noncomputable def runA (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : ¬ cond0_0 i)
    (x0 : Vec F S1x256x2880 .fp8e4m3) (x1 : Vec F S1x256x90 .i8) (x2 : Vec F S1x256x2880 .bf16) (x3 : Vec F S90x2880 .bf16) (s : Vec F S128x2880 .i32) :
    Σ' (L6 : List (View.Piece (Elt F) S1x2880x256 .fp8e4m3)), { L8 : List (View.Piece (Elt F) S128x2880 .i32) //
      ∀ (d7 : Vec F S1x2880x128 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f L6)) ∗ owns (c : Thread nD τ) arg7 fullShare d7 ∗ (arg8.view.loc (c : Thread nD τ) ↦[arg8.view.set]{fullShare} arg8.view.writes (Elt F) (harg8.unread s) L8)) -∗ K ⟨⟩))
          ⊢ wp frame (wpE (defs₀ (F := F)) Variants.none c none) E (cc0_dgelu_row_to_col i arg2 harg2 arg3 harg3 arg4 harg4 arg5 harg5 arg6 harg6 arg7 harg7 arg8 harg8) K } := by
  refine ⟨?_, ?_, fun d7 E K => ?run⟩
  case run =>
    simp only [cc0_dgelu_row_to_col_eq_skeleton]; unfold cc0_dgelu_row_to_col_skel
    simp only [k0_part4_eq_skeleton, k0_part5_eq_skeleton, k0_part6_eq_skeleton]
    rw [owns.eq_def (c : Thread nD τ) arg2, owns.eq_def (c : Thread nD τ) arg3, owns.eq_def (c : Thread nD τ) arg4, owns.eq_def (c : Thread nD τ) arg5, owns.eq_def (c : Thread nD τ) arg8]
    simp only [owns.eq_def (c : Thread nD τ) arg6]
    iintro ⟨⟨%f0, %hf0, H0⟩, ⟨%f1, %hf1, H1⟩, ⟨%f2, %hf2, H2⟩, ⟨%f3, %hf3, H3⟩, ⟨%d4, %f4, -, H4⟩, H5, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexact H5
    iexact HS0

set_option maxHeartbeats 1000000 in
/-- The body at a point that is the last of an image: on whole staging memrefs, the inputs' at their contents and the
    scratch at `s`, it runs to the inputs as they were, the code block with the pieces `L6` written, the scratch with the
    pieces `L8` written and the scale block with the pieces `L7` written. The lists are the run's own finds. -/
noncomputable def runB (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : cond0_0 i)
    (x0 : Vec F S1x256x2880 .fp8e4m3) (x1 : Vec F S1x256x90 .i8) (x2 : Vec F S1x256x2880 .bf16) (x3 : Vec F S90x2880 .bf16) (s : Vec F S128x2880 .i32) :
    Σ' (L6 : List (View.Piece (Elt F) S1x2880x256 .fp8e4m3)) (L7 : List (View.Piece (Elt F) S1x2880x128 .i8)), { L8 : List (View.Piece (Elt F) S128x2880 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, (arg6.view.loc (c : Thread nD τ) ↦[arg6.view.set]{fullShare} arg6.view.writes (Elt F) f L6)) ∗ (∃ f, (arg7.view.loc (c : Thread nD τ) ↦[arg7.view.set]{fullShare} arg7.view.writes (Elt F) f L7)) ∗ (arg8.view.loc (c : Thread nD τ) ↦[arg8.view.set]{fullShare} arg8.view.writes (Elt F) (harg8.unread s) L8)) -∗ K ⟨⟩))
          ⊢ wp frame (wpE (defs₀ (F := F)) Variants.none c none) E (cc0_dgelu_row_to_col i arg2 harg2 arg3 harg3 arg4 harg4 arg5 harg5 arg6 harg6 arg7 harg7 arg8 harg8) K } := by
  refine ⟨?_, ?_, ?_, fun E K => ?run⟩
  case run =>
    simp only [cc0_dgelu_row_to_col_eq_skeleton]; unfold cc0_dgelu_row_to_col_skel
    simp only [k0_part4_eq_skeleton, k0_part5_eq_skeleton, k0_part6_eq_skeleton]
    rw [owns.eq_def (c : Thread nD τ) arg2, owns.eq_def (c : Thread nD τ) arg3, owns.eq_def (c : Thread nD τ) arg4, owns.eq_def (c : Thread nD τ) arg5, owns.eq_def (c : Thread nD τ) arg8]
    simp only [owns.eq_def (c : Thread nD τ) arg6, owns.eq_def (c : Thread nD τ) arg7]
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexact HS0

end Cert.KernelIdeal.Gen

end
-- ==== Proof.Spec.lean ====
/- The kernel's mathematics at one element, and its payloads read at an index as that mathematics. -/
module

public import proofs.«01_k».proof.Proof.Gen.KernelIdeal.Skeleton
public import Idealize.ShloMosaic.Lib.Pointwise

@[expose] public section

set_option maxRecDepth 16384

noncomputable section

namespace Cert.KernelIdeal.Gen

open Idealize.ShloMosaic Idealize.SL.Sem

/-- The tanh in the kernel's derivative of the gelu, at `p`. -/
def kT (p : EReal) : EReal :=
  Ideal.tanh (p * (Named.named (F := Ideal) κ "gelu_c" (φ := .f32) 1061962282#32
    + Named.named (F := Ideal) κ "gelu_ck" (φ := .f32) 1024598649#32 * (p * p)))

/-- The kernel's derivative of the gelu at `p`. -/
def kD (p : EReal) : EReal :=
  Ideal.ofBits FTy.f32 1056964608#32 * (1 + kT p)
    * (1 + (1 - kT p) * (p * (Named.named (F := Ideal) κ "gelu_c" (φ := .f32) 1061962282#32
        + Named.named (F := Ideal) κ "gelu_3ck" (φ := .f32) 1037775798#32 * (p * p))))

/-- A power of two from its biased exponent: the word shifted into the exponent field and read as a float. -/
def kPow (k : BitVec 32) : EReal := Ideal.ofBits FTy.f32 (IntOp.shli ArithUnit.vector k 23#32)

/-- One step of the kernel's binary search for the biased exponent of `y`: the bit `b` joins `k` unless `y` lies
    below the power it makes. -/
def kStep (y : EReal) (k b : BitVec 32) : BitVec 32 :=
  if y < kPow (IntOp.addi k b) then k else IntOp.addi k b

/-- The first four steps of the search. -/
def kHalf (y : EReal) : BitVec 32 := kStep y (kStep y (kStep y (kStep y 0#32 128#32) 64#32) 32#32) 16#32

/-- The whole search. -/
def kFind (y : EReal) : BitVec 32 := kStep y (kStep y (kStep y (kStep y (kHalf y) 8#32) 4#32) 2#32) 1#32

/-- The kernel's block exponent from the block's largest magnitude. -/
def kE (a : EReal) : BitVec 32 :=
  if a = 0 then 0#32
  else IntOp.subi (IntOp.minsi (kFind (a * Ideal.ofBits FTy.f32 991054117#32)) 252#32) 126#32

/-- The code of `w` at the block exponent `e`: scaled down, then clipped. -/
def kCode (w : EReal) (e : BitVec 32) : EReal :=
  min (Ideal.ofBits FTy.f32 1138753536#32)
    (max (Ideal.ofBits FTy.f32 3286237184#32) (w * kPow (IntOp.subi 127#32 e)))

/-- The largest magnitude of a block of 32. -/
def kMax (w : Fin 32 → EReal) : EReal :=
  Finset.univ.fold max (Ideal.ofBits FTy.f32 4286578688#32) fun l => FloatOps.absf (F := Ideal) (φ := .f32) (w l)

/-- The multiplier of row `r` and channel `ch`: the row's decoded scales against the column of the selector. -/
def kMul {n : ℕ} (v0 : Vec Ideal S1x256x90 .i8) (sel : (⟨2, ![90, n]⟩ : Shape).Idx → EReal) (r : Fin 256) (ch : Fin n) : EReal :=
  ∑ g : Fin 90, kPow (BitVec.setWidth 32 (v0 (ix3 0 r g))) * sel (ix2 g ch)

section
variable (v0 : Vec Ideal S1x256x90 .i8) (v158 : Vec Ideal S90x128 .bf16) (v162 : Vec Ideal S1x256x128 .fp8e4m3)
  (v167 : Vec Ideal S1x256x128 .bf16)

theorem pay5_apply (a : Fin 8) (r : Fin 32) (c : Fin 128) :
    k0_pay5 (k0_pay14 v0) v158 v162 v167 (ix3 a r c)
      = v162 (ix3 0 ⟨a * 32 + r, by omega⟩ c) * kMul v0 v158 ⟨a * 32 + r, by omega⟩ c
        * kD (v167 (ix3 0 ⟨a * 32 + r, by omega⟩ c)) := by
  pointwise [k0_pay5, k0_pay14]
  rfl

theorem pay6_apply (a : Fin 8) (c : Fin 128) :
    k0_pay6 (k0_pay14 v0) v158 v162 v167 (ix2 a c)
      = kMax fun l => k0_pay5 (k0_pay14 v0) v158 v162 v167 (ix3 a l c) := by
  pointwise [k0_pay6]
  rfl

theorem pay10_apply (u : FVec Ideal S8x128 .f32) (a : Fin 8) (c : Fin 128) :
    k0_pay10 u k0_pay7 (ix2 a c) = kHalf (u (ix2 a c) * Ideal.ofBits FTy.f32 991054117#32) := by
  pointwise [k0_pay10, k0_pay7, k0_pay8]
  rfl

theorem pay11_apply (u : FVec Ideal S8x128 .f32) (a : Fin 8) (c : Fin 128) :
    k0_pay11 u k0_pay7 (ix2 a c) = IntOp.shli ArithUnit.vector (IntOp.addi (k0_pay10 u k0_pay7 (ix2 a c)) 8#32) 23#32 := by
  pointwise [k0_pay11]

theorem pay12_apply (u : FVec Ideal S8x128 .f32) (a : Fin 8) (c : Fin 128) :
    k0_pay12 (k0_pay8 u k0_pay7) (k0_pay9 u) (k0_pay10 u k0_pay7) (k0_pay11 u k0_pay7) (ix2 a c) = kE (u (ix2 a c)) := by
  have h8 : k0_pay8 u k0_pay7 (ix2 a c) = u (ix2 a c) * Ideal.ofBits FTy.f32 991054117#32 := by
    pointwise [k0_pay8, k0_pay7]
  have h11 := pay11_apply u a c
  have h10 := pay10_apply u a c
  have h9 : k0_pay9 u (ix2 a c) = BitVec.ofBool (decide (u (ix2 a c) = 0)) := by
    pointwise [k0_pay9]
  generalize k0_pay8 u k0_pay7 = y at *
  generalize k0_pay11 u k0_pay7 = v240 at *
  generalize k0_pay10 u k0_pay7 = v236 at *
  generalize k0_pay9 u = v199 at *
  pointwise [k0_pay12]
  rw [h8, h11, h10, h9]
  by_cases hu : u (ix2 a c) = 0
  · simp only [kE, hu, decide_true, if_true]
    rfl
  · simp only [kE, hu, decide_false, if_false]
    rfl

theorem pay15_apply (w : FVec Ideal S8x32x128 .f32) (v197 v199 v236 v240) (r : Fin 256) (c : Fin 128) :
    k0_pay15 w (k0_pay13 v197 v199 v236 v240) (ix3 0 c r)
      = kCode (w (ix3 ⟨r / 32, by omega⟩ ⟨r % 32, by omega⟩ c)) (k0_pay12 v197 v199 v236 v240 (ix2 ⟨r / 32, by omega⟩ c)) := by
  pointwise [k0_pay15, k0_pay13]
  rfl

theorem pay16_apply (e : IVec S8x128 32) (a : Fin 8) (c : Fin 128) :
    k0_pay16 e (ix2 a c) = IntOp.addi (e (ix2 a c)) 127#32 := by
  pointwise [k0_pay16]

end

section
variable (v0 : Vec Ideal S1x256x90 .i8) (v8 : Vec Ideal S90x64 .bf16) (v11 : Vec Ideal S1x256x64 .fp8e4m3)
  (v15 : Vec Ideal S1x256x64 .bf16)

/-- The last 64 channels' product, at an index. -/
theorem pay23_apply (a : Fin 8) (r : Fin 32) (c : Fin 64) :
    k0_pay23 (k0_pay17 v0 v8 v11) (k0_pay20 v15) (k0_pay21 v15) (k0_pay22 v15) (ix3 a r c)
      = v11 (ix3 0 ⟨a * 32 + r, by omega⟩ c) * kMul v0 v8 ⟨a * 32 + r, by omega⟩ c
        * kD (v15 (ix3 0 ⟨a * 32 + r, by omega⟩ c)) := by
  pointwise [k0_pay23, k0_pay17, k0_pay20, k0_pay21, k0_pay22, k0_pay18, k0_pay19, k0_pay14]
  rfl

variable (v14 v24 v29 v33 : FVec Ideal S256x64 .f32)

/-- The last 64 channels' largest magnitudes, at an index. -/
theorem pay24_apply (a : Fin 8) (c : Fin 64) :
    k0_pay24 v14 v24 v29 v33 (ix2 a c) = kMax fun l => k0_pay23 v14 v24 v29 v33 (ix3 a l c) := by
  pointwise [k0_pay24]
  rfl

theorem pay25_apply (a : Fin 8) (c : Fin 64) :
    k0_pay25 v14 v24 v29 v33 (ix2 a c) = k0_pay24 v14 v24 v29 v33 (ix2 a c) * Ideal.ofBits FTy.f32 991054117#32 := by
  pointwise [k0_pay25]

theorem pay26_apply (a : Fin 8) (c : Fin 64) :
    k0_pay26 v14 v24 v29 v33 (ix2 a c) = BitVec.ofBool (decide (k0_pay24 v14 v24 v29 v33 (ix2 a c) = 0)) := by
  pointwise [k0_pay26]

theorem pay27_apply (a : Fin 8) (c : Fin 64) :
    k0_pay27 v14 v24 v29 v33 (ix2 a c)
      = kStep (k0_pay25 v14 v24 v29 v33 (ix2 a c)) (kStep (k0_pay25 v14 v24 v29 v33 (ix2 a c))
          (kStep (k0_pay25 v14 v24 v29 v33 (ix2 a c)) 0#32 128#32) 64#32) 32#32 := by
  pointwise [k0_pay27]
  rfl

theorem pay28_apply (a : Fin 8) (c : Fin 64) :
    k0_pay28 v14 v24 v29 v33 (ix2 a c) = IntOp.addi (k0_pay27 v14 v24 v29 v33 (ix2 a c)) 16#32 := by
  pointwise [k0_pay28]

theorem pay29_apply (a : Fin 8) (c : Fin 64) :
    k0_pay29 (k0_pay25 v14 v24 v29 v33) (k0_pay27 v14 v24 v29 v33) (k0_pay28 v14 v24 v29 v33) (ix2 a c)
      = IntOp.minsi (kFind (k0_pay25 v14 v24 v29 v33 (ix2 a c))) 252#32 := by
  have h27 := pay27_apply v14 v24 v29 v33 a c
  have h28 := pay28_apply v14 v24 v29 v33 a c
  generalize k0_pay25 v14 v24 v29 v33 = y at *
  generalize k0_pay28 v14 v24 v29 v33 = u at *
  generalize k0_pay27 v14 v24 v29 v33 = z at *
  pointwise [k0_pay29]
  rw [h28, h27]
  rfl

/-- The last 64 channels' block exponents, at an index. -/
theorem pay1_apply (a : Fin 8) (c : Fin 64) :
    k0_pay1 (k0_pay26 v14 v24 v29 v33) (k0_pay29 (k0_pay25 v14 v24 v29 v33) (k0_pay27 v14 v24 v29 v33) (k0_pay28 v14 v24 v29 v33)) (ix2 a c)
      = kE (k0_pay24 v14 v24 v29 v33 (ix2 a c)) := by
  have h26 := pay26_apply v14 v24 v29 v33 a c
  have h29 := pay29_apply v14 v24 v29 v33 a c
  have h25 := pay25_apply v14 v24 v29 v33 a c
  generalize k0_pay29 (k0_pay25 v14 v24 v29 v33) (k0_pay27 v14 v24 v29 v33) (k0_pay28 v14 v24 v29 v33) = z at *
  generalize k0_pay26 v14 v24 v29 v33 = b at *
  pointwise [k0_pay1]
  rw [h29, h26, h25]
  by_cases hu : k0_pay24 v14 v24 v29 v33 (ix2 a c) = 0
  · simp only [kE, hu, decide_true, if_true]
    rfl
  · simp only [kE, hu, decide_false, if_false]
    rfl

theorem pay2_apply (w : FVec Ideal S8x32x64 .f32) (v47 v122) (r : Fin 256) (c : Fin 64) :
    k0_pay2 w v47 v122 (ix3 0 c r)
      = kCode (w (ix3 ⟨r / 32, by omega⟩ ⟨r % 32, by omega⟩ c)) (k0_pay1 v47 v122 (ix2 ⟨r / 32, by omega⟩ c)) := by
  pointwise [k0_pay2]
  rfl

theorem pay3_apply (v47 v122) (a : Fin 8) (c : Fin 64) :
    k0_pay3 v47 v122 (ix2 a c) = IntOp.addi (k0_pay1 v47 v122 (ix2 a c)) 127#32 := by
  pointwise [k0_pay3]

/-- The scale block is the scratch transposed, each word cut to a byte. -/
theorem pay4_apply (s : Vec Ideal S128x2880 .i32) (ch : Fin 2880) (b : Fin 128) :
    k0_pay4 (F := Ideal) s (ix3 0 ch b) = BitVec.setWidth 8 (s (ix2 b ch)) := by
  pointwise [k0_pay4]

end

end Cert.KernelIdeal.Gen

end
-- ==== Proof.Pieces.lean ====
/- The pieces the body leaves, read at an index: the code block and the exponent rows as functions of the point's
   input blocks. -/
module

public import proofs.«01_k».proof.Proof.Body
public import proofs.«01_k».proof.Proof.Spec
public import Idealize.ShloMosaic.Lib.VecWindow
public import Idealize.ShloMosaic.Lib.CellWrites

@[expose] public section

set_option maxRecDepth 16384

noncomputable section

namespace Cert.KernelIdeal.Gen

open Idealize.ShloMosaic Idealize.ShloMosaic.TcCoe Idealize.SL.Sem

theorem trips_22 : k0_t1_loop.trips = 22 := by decide +kernel

theorem off1_eq : ∀ k : Fin k0_t1_loop.trips, k0_off1 k = ![0, 128 * k.val] := by decide +kernel
theorem off2_eq : ∀ k : Fin k0_t1_loop.trips, k0_off2 k = ![0, 0, 128 * k.val] := by decide +kernel
theorem off3_eq : ∀ k : Fin k0_t1_loop.trips, k0_off3 k = ![0, 128 * k.val, 0] := by decide +kernel
theorem off5_eq (i : grid0.Coords) : k0_off5 i = ![8 * (i 1).val, 2816] := by
  have h : ∀ j : Fin 16, (Scalar.indexCast (Scalar.muli (BitVec.ofNat 32 j.val) 8#32)).toNat = 8 * j.val := by decide
  unfold k0_off5
  dsimp only
  rw [h (i 1)]
theorem off4_eq (i : grid0.Coords) (k : Fin k0_t1_loop.trips) : k0_off4 i k = ![8 * (i 1).val, 128 * k.val] := by
  have h : ∀ j : Fin 16, (Scalar.indexCast (Scalar.muli (BitVec.ofNat 32 j.val) 8#32)).toNat = 8 * j.val := by decide
  have h2 : (k0_off1 k) 1 = 128 * k.val := congrFun (off1_eq k) 1
  unfold k0_off4
  dsimp only
  rw [h (i 1)]
  exact congrArg (fun z => ![8 * (i 1).val, z]) h2

section
variable (x0 : Vec Ideal S1x256x2880 .fp8e4m3) (x1 : Vec Ideal S1x256x90 .i8) (x2 : Vec Ideal S1x256x2880 .bf16) (x3 : Vec Ideal S90x2880 .bf16)

/-- The kernel's product at row `r` and channel `ch` of a point. -/
def wB (r : Fin 256) (ch : Fin 2880) : EReal :=
  x0 (ix3 0 r ch) * kMul x1 x3 r ch * kD (x2 (ix3 0 r ch))

/-- The exponent of the block of 32 rows `a` in channel `ch` of a point. -/
def eB (a : Fin 8) (ch : Fin 2880) : BitVec 32 :=
  kE (kMax fun l : Fin 32 => wB x0 x1 x2 x3 ⟨a * 32 + l, by omega⟩ ch)

/-- The code at row `r` and channel `ch` of a point. -/
def codeB (r : Fin 256) (ch : Fin 2880) : EReal :=
  kCode (wB x0 x1 x2 x3 r ch) (eB x0 x1 x2 x3 ⟨r / 32, by omega⟩ ch)

/-- The code block of a point: channels by rows. -/
def blk6 : Vec Ideal S1x2880x256 .fp8e4m3 := fun y => codeB x0 x1 x2 x3 (y 2) (y 1)

/-- The exponent words of a point, by scratch row (modulo the eight rows of a point) and channel. -/
def row8 : Vec Ideal S128x2880 .i32 := fun y =>
  IntOp.addi (eB x0 x1 x2 x3 ⟨(y 0).val % 8, Nat.mod_lt _ (by decide)⟩ (y 1)) 127#32

end

/-- A load at an index is the array at the index moved by the offset. -/
theorem ld_at {s : Shape} {e : EltTy} (X : s.Idx → Elt Ideal e) {off size : Fin s.rank → ℕ} (off' : Fin s.rank → ℕ) (heq : off = off') (inb)
    (x : (Rect.unit off size inb).shape.Idx) (y : s.Idx) (h : ∀ a, (y a).val = off' a + (x a).val) :
    View.ld (Val := Elt Ideal) X (Rect.unit off size inb) x = X y := by
  subst heq
  exact congrArg X (funext fun a => Fin.ext (by rw [h a]; show off a + 1 * (x a).val = _; omega))

section
variable (x0 : Vec Ideal S1x256x2880 .fp8e4m3) (x1 : Vec Ideal S1x256x90 .i8) (x2 : Vec Ideal S1x256x2880 .bf16) (x3 : Vec Ideal S90x2880 .bf16)

/-- The multiplier over a chunk of the selector is the multiplier at the chunk's channel. -/
theorem kMul_ld {n : ℕ} (sel : (⟨2, ![90, n]⟩ : Shape).Idx → EReal) (r : Fin 256) (c : Fin n) (ch : Fin 2880)
    (h : ∀ g : Fin 90, sel (ix2 g c) = x3 (ix2 g ch)) : kMul x1 sel r c = kMul x1 x3 r ch := by
  unfold kMul
  exact Finset.sum_congr rfl fun g _ => by rw [h g]

/-- The piece of the code block one trip stores, at an index. -/
theorem trip6_val (k : Fin k0_t1_loop.trips) (W : FVec Ideal S8x32x128 .f32) (U : FVec Ideal S8x128 .f32)
    (hW : W = k0_pay5 (k0_pay14 x1) (View.ld x3 (Rect.unit (s := S90x2880) (k0_off1 k) S90x128.size (k0_off1_inb k)))
      (View.ld x0 (Rect.unit (s := S1x256x2880) (k0_off2 k) S1x256x128.size (k0_off2_inb k)))
      (View.ld x2 (Rect.unit (s := S1x256x2880) (k0_off2 k) S1x256x128.size (k0_off2_inb k))))
    (hU : U = k0_pay6 (k0_pay14 x1) (View.ld x3 (Rect.unit (s := S90x2880) (k0_off1 k) S90x128.size (k0_off1_inb k)))
      (View.ld x0 (Rect.unit (s := S1x256x2880) (k0_off2 k) S1x256x128.size (k0_off2_inb k)))
      (View.ld x2 (Rect.unit (s := S1x256x2880) (k0_off2 k) S1x256x128.size (k0_off2_inb k))))
    (c : Fin 128) (ch : Fin 2880) (hch : ch.val = 128 * k.val + c.val) :
    (∀ (a : Fin 8) (l : Fin 32), W (ix3 a l c) = wB x0 x1 x2 x3 ⟨a * 32 + l, by omega⟩ ch)
    ∧ ∀ a : Fin 8, k0_pay12 (k0_pay8 U k0_pay7) (k0_pay9 U) (k0_pay10 U k0_pay7) (k0_pay11 U k0_pay7) (ix2 a c) = eB x0 x1 x2 x3 a ch := by
  have hw : ∀ (a : Fin 8) (l : Fin 32), W (ix3 a l c) = wB x0 x1 x2 x3 ⟨a * 32 + l, by omega⟩ ch := fun a l => by
    rw [hW, pay5_apply, wB]
    have hm : ∀ r : Fin 256, kMul x1 (View.ld (Val := Elt Ideal) (e' := .bf16) x3 (Rect.unit (s := S90x2880) (k0_off1 k) S90x128.size (k0_off1_inb k))) r c
        = kMul x1 x3 r ch := fun r =>
      kMul_ld x1 x3 _ r c ch fun g => ld_at (e := .bf16) x3 _ (off1_eq k) _ (ix2 g c) (ix2 g ch) fun d => by
        fin_cases d
        · show g.val = 0 + g.val; omega
        · exact hch
    have e : ∀ (X : S1x256x2880.Idx → EReal) (inb) (r : Fin 256),
        View.ld (Val := Elt Ideal) (e' := .f32) X (Rect.unit (s := S1x256x2880) (k0_off2 k) S1x256x128.size inb) (ix3 0 r c) = X (ix3 0 r ch) :=
      fun X inb r => ld_at (e := .f32) X _ (off2_eq k) _ (ix3 0 r c) (ix3 0 r ch) fun d => by
        fin_cases d
        · rfl
        · show r.val = 0 + r.val; omega
        · exact hch
    exact congrArg₂ (fun (p q : EReal) => p * q) (congrArg₂ (fun (p q : EReal) => p * q) (e x0 _ _) (hm _)) (congrArg kD (e x2 _ _))
  refine ⟨hw, fun a => ?_⟩
  rw [pay12_apply, hU, pay6_apply, eB]
  congr 2
  funext l
  rw [← hw a l, hW]

end

/-- What one trip stores: its chunk of the code block and its row of exponent words. -/
theorem trip_pieces (𝒱 : Variants) (c : Dev nD) (bd : Option 𝒱.V) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (v0 : Vec Ideal S1x256x90 .i8) (X_arg2 : BufTy.Contents (Elt Ideal) arg2.view.ty) (X_arg4 : BufTy.Contents (Elt Ideal) arg4.view.ty) (X_arg5 : BufTy.Contents (Elt Ideal) arg5.view.ty) (k : Fin k0_t1_loop.trips)
    (W) (hW : W = k0_pay5 (k0_pay14 v0) (View.readAt (Elt Ideal) arg5.view (Rect.unit (s := S90x2880) (k0_off1 k) S90x128.size (k0_off1_inb k)).toLoadRect X_arg5)
        (View.readAt (Elt Ideal) arg2.view (Rect.unit (s := S1x256x2880) (k0_off2 k) S1x256x128.size (k0_off2_inb k)).toLoadRect X_arg2)
        (View.readAt (Elt Ideal) arg4.view (Rect.unit (s := S1x256x2880) (k0_off2 k) S1x256x128.size (k0_off2_inb k)).toLoadRect X_arg4))
    (U) (hU : U = k0_pay6 (k0_pay14 v0) (View.readAt (Elt Ideal) arg5.view (Rect.unit (s := S90x2880) (k0_off1 k) S90x128.size (k0_off1_inb k)).toLoadRect X_arg5)
        (View.readAt (Elt Ideal) arg2.view (Rect.unit (s := S1x256x2880) (k0_off2 k) S1x256x128.size (k0_off2_inb k)).toLoadRect X_arg2)
        (View.readAt (Elt Ideal) arg4.view (Rect.unit (s := S1x256x2880) (k0_off2 k) S1x256x128.size (k0_off2_inb k)).toLoadRect X_arg4)) :
    tripL_k0_t1 𝒱 c bd i arg2 harg2 arg3 harg3 arg4 harg4 arg5 harg5 arg6 harg6 arg7 harg7 arg8 harg8 v0 X_arg2 X_arg4 X_arg5 k
      = ([⟨Rect.unit (s := S1x2880x256) (k0_off3 k) S1x128x256.size (k0_off3_inb k),
            k0_pay15 W (k0_pay13 (k0_pay8 U k0_pay7) (k0_pay9 U) (k0_pay10 U k0_pay7) (k0_pay11 U k0_pay7))⟩],
          [⟨Rect.unit (s := S128x2880) (k0_off4 i k) S8x128.size (k0_off4_inb i k),
            k0_pay16 (k0_pay12 (k0_pay8 U k0_pay7) (k0_pay9 U) (k0_pay10 U k0_pay7) (k0_pay11 U k0_pay7))⟩]) := by
  subst hW hU
  unfold tripL_k0_t1 trip_k0_t1
  rfl

section
variable (x0 : Vec Ideal S1x256x2880 .fp8e4m3) (x1 : Vec Ideal S1x256x90 .i8) (x2 : Vec Ideal S1x256x2880 .bf16) (x3 : Vec Ideal S90x2880 .bf16)

/-- A piece of the code block carries the point's codes. -/
def Good6 (p : View.Piece (Elt Ideal) S1x2880x256 .fp8e4m3) : Prop := ∀ x, p.2 x = blk6 x0 x1 x2 x3 (p.1.emb x)

/-- A piece of the scratch carries the point's exponent words and lies in the point's eight rows. -/
def Good8 (j : ℕ) (p : View.Piece (Elt Ideal) S128x2880 .i32) : Prop :=
  (∀ x, p.2 x = row8 x0 x1 x2 x3 (p.1.emb x)) ∧ ∀ y ∈ p.1.set, (y 0).val / 8 = j

/-- Codes agree when the places do. -/
theorem blk6_at (r r' : Fin 256) (ch ch' : Fin 2880) (hr : r.val = r'.val) (hc : ch.val = ch'.val) (y : S1x2880x256.Idx)
    (h1 : y 1 = ch') (h2 : y 2 = r') : codeB x0 x1 x2 x3 r ch = blk6 x0 x1 x2 x3 y := by
  obtain rfl := Fin.ext hr; obtain rfl := Fin.ext hc
  unfold blk6
  rw [h1, h2]

theorem good6_of (off : Fin 3 → ℕ) (o n : ℕ) (heq : off = ![0, o, 0]) (inb) (P : (⟨3, ![1, n, 256]⟩ : Shape).Idx → EReal)
    (h : ∀ (r : Fin 256) (c : Fin n) (ch : Fin 2880), ch.val = o + c.val → P (ix3 0 c r) = codeB x0 x1 x2 x3 r ch) :
    Good6 x0 x1 x2 x3 ⟨Rect.unit (s := S1x2880x256) off (⟨3, ![1, n, 256]⟩ : Shape).size inb, P⟩ := by
  subst heq
  intro x
  change (⟨3, ![1, n, 256]⟩ : Shape).Idx at x
  have hb : o + n ≤ 2880 := inb 1
  have hx1 : (x 1).val < n := (x 1).isLt
  have hx : x = ix3 0 (x 1) (x 2) := by
    funext d
    fin_cases d
    · exact Subsingleton.elim (α := Fin 1) _ _
    · rfl
    · rfl
  refine (congrArg P hx).trans ((h (x 2) (x 1) ⟨o + (x 1).val, by omega⟩ rfl).trans ?_)
  unfold blk6
  congr 1
  · exact Fin.ext (by show _ = 0 + 1 * (x 2).val; omega)
  · exact Fin.ext (by show o + (x 1).val = o + 1 * (x 1).val; omega)

theorem good8_of (off : Fin 2 → ℕ) (j o n : ℕ) (heq : off = ![8 * j, o]) (inb) (P : (⟨2, ![8, n]⟩ : Shape).Idx → BitVec 32)
    (h : ∀ (a : Fin 8) (c : Fin n) (ch : Fin 2880), ch.val = o + c.val → P (ix2 a c) = IntOp.addi (eB x0 x1 x2 x3 a ch) 127#32) :
    Good8 x0 x1 x2 x3 j ⟨Rect.unit (s := S128x2880) off (⟨2, ![8, n]⟩ : Shape).size inb, P⟩ := by
  subst heq
  have hb : o + n ≤ 2880 := inb 1
  constructor
  · intro x
    change (⟨2, ![8, n]⟩ : Shape).Idx at x
    have hx1 : (x 1).val < n := (x 1).isLt
    have hx0 : (x 0).val < 8 := (x 0).isLt
    have hx : x = ix2 (x 0) (x 1) := by
      funext d
      fin_cases d
      · rfl
      · rfl
    refine (congrArg P hx).trans ((h (x 0) (x 1) ⟨o + (x 1).val, by omega⟩ rfl).trans ?_)
    unfold row8
    congr 2
    · exact Fin.ext (by show _ = (8 * j + 1 * (x 0).val) % 8; omega)
    · exact Fin.ext (by show o + (x 1).val = o + 1 * (x 1).val; omega)
  · intro y hy
    have h0 := (Rect.mem_set_unit (inb := inb)).mp hy 0
    change 8 * j ≤ (y 0).val ∧ (y 0).val < 8 * j + 8 at h0
    omega

/-- A chunk of channels covers its cells of the code block. -/
theorem mem6_of (off : Fin 3 → ℕ) (o n : ℕ) (heq : off = ![0, o, 0])
    (inb : ∀ a, off a + (⟨3, ![1, n, 256]⟩ : Shape).size a ≤ S1x2880x256.size a) (y : S1x2880x256.Idx)
    (h1 : o ≤ (y 1).val) (h2 : (y 1).val < o + n) :
    y ∈ (Rect.unit (s := S1x2880x256) off (⟨3, ![1, n, 256]⟩ : Shape).size inb).set := by
  subst heq
  refine (Rect.mem_set_unit (inb := inb)).mpr fun d => ?_
  fin_cases d
  · exact ⟨Nat.zero_le _, (y 0).isLt⟩
  · exact ⟨h1, h2⟩
  · exact ⟨Nat.zero_le _, by show (y 2).val < 0 + 256; exact (Nat.zero_add 256).symm ▸ (y 2).isLt⟩

/-- A chunk of channels covers its cells of the point's eight rows of the scratch. -/
theorem mem8_of (off : Fin 2 → ℕ) (j o n : ℕ) (heq : off = ![8 * j, o])
    (inb : ∀ a, off a + (⟨2, ![8, n]⟩ : Shape).size a ≤ S128x2880.size a) (y : S128x2880.Idx)
    (h0 : (y 0).val / 8 = j) (h1 : o ≤ (y 1).val) (h2 : (y 1).val < o + n) :
    y ∈ (Rect.unit (s := S128x2880) off (⟨2, ![8, n]⟩ : Shape).size inb).set := by
  subst heq
  refine (Rect.mem_set_unit (inb := inb)).mpr fun d => ?_
  fin_cases d
  · show 8 * j ≤ (y 0).val ∧ (y 0).val < 8 * j + 8; omega
  · exact ⟨h1, h2⟩

/-- The values one trip stores, channel by channel. -/
theorem trip_vals (𝒱 : Variants) (c : Dev nD) (bd : Option 𝒱.V) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (k : Fin k0_t1_loop.trips) :
    ∃ (W : FVec Ideal S8x32x128 .f32) (U : FVec Ideal S8x128 .f32),
    tripL_k0_t1 𝒱 c bd i arg2 harg2 arg3 harg3 arg4 harg4 arg5 harg5 arg6 harg6 arg7 harg7 arg8 harg8 x1 (harg2.unread x0) (harg4.unread x2) (harg5.unread x3) k
      = ([⟨Rect.unit (s := S1x2880x256) (k0_off3 k) S1x128x256.size (k0_off3_inb k),
            k0_pay15 W (k0_pay13 (k0_pay8 U k0_pay7) (k0_pay9 U) (k0_pay10 U k0_pay7) (k0_pay11 U k0_pay7))⟩],
          [⟨Rect.unit (s := S128x2880) (k0_off4 i k) S8x128.size (k0_off4_inb i k),
            k0_pay16 (k0_pay12 (k0_pay8 U k0_pay7) (k0_pay9 U) (k0_pay10 U k0_pay7) (k0_pay11 U k0_pay7))⟩])
    ∧ ∀ (c : Fin 128) (ch : Fin 2880), ch.val = 128 * k.val + c.val →
        (∀ a l, W (ix3 a l c) = wB x0 x1 x2 x3 ⟨a.val * 32 + l.val, by omega⟩ ch)
        ∧ ∀ a, k0_pay12 (k0_pay8 U k0_pay7) (k0_pay9 U) (k0_pay10 U k0_pay7) (k0_pay11 U k0_pay7) (ix2 a c) = eB x0 x1 x2 x3 a ch := by
  refine ⟨_, _, trip_pieces 𝒱 c bd i arg2 harg2 arg3 harg3 arg4 harg4 arg5 harg5 arg6 harg6 arg7 harg7 arg8 harg8 _ _ _ _ k _ rfl _ rfl, fun c ch hch => ?_⟩
  simp only [View.readAt_eq_ld, harg2.read_unread, harg4.read_unread, harg5.read_unread]
  exact trip6_val x0 x1 x2 x3 k _ _ rfl rfl c ch hch

/-- Every piece a trip leaves in the code block and in the scratch is good. -/
theorem trip_good (𝒱 : Variants) (c : Dev nD) (bd : Option 𝒱.V) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (k : Fin k0_t1_loop.trips) :
    (∀ p ∈ (tripL_k0_t1 𝒱 c bd i arg2 harg2 arg3 harg3 arg4 harg4 arg5 harg5 arg6 harg6 arg7 harg7 arg8 harg8 x1 (harg2.unread x0) (harg4.unread x2) (harg5.unread x3) k).1,
        Good6 x0 x1 x2 x3 p ∧ ∀ y : S1x2880x256.Idx, 128 * k.val ≤ (y 1).val → (y 1).val < 128 * k.val + 128 → y ∈ p.1.set)
    ∧ (tripL_k0_t1 𝒱 c bd i arg2 harg2 arg3 harg3 arg4 harg4 arg5 harg5 arg6 harg6 arg7 harg7 arg8 harg8 x1 (harg2.unread x0) (harg4.unread x2) (harg5.unread x3) k).1 ≠ []
    ∧ (∀ p ∈ (tripL_k0_t1 𝒱 c bd i arg2 harg2 arg3 harg3 arg4 harg4 arg5 harg5 arg6 harg6 arg7 harg7 arg8 harg8 x1 (harg2.unread x0) (harg4.unread x2) (harg5.unread x3) k).2,
        Good8 x0 x1 x2 x3 (i 1).val p ∧ ∀ y : S128x2880.Idx, (y 0).val / 8 = (i 1).val → 128 * k.val ≤ (y 1).val → (y 1).val < 128 * k.val + 128 → y ∈ p.1.set)
    ∧ (tripL_k0_t1 𝒱 c bd i arg2 harg2 arg3 harg3 arg4 harg4 arg5 harg5 arg6 harg6 arg7 harg7 arg8 harg8 x1 (harg2.unread x0) (harg4.unread x2) (harg5.unread x3) k).2 ≠ [] := by
  obtain ⟨W, U, h, hv⟩ := trip_vals x0 x1 x2 x3 𝒱 c bd i arg2 harg2 arg3 harg3 arg4 harg4 arg5 harg5 arg6 harg6 arg7 harg7 arg8 harg8 k
  rw [h]
  refine ⟨List.forall_mem_singleton.mpr ⟨good6_of x0 x1 x2 x3 _ _ 128 (off3_eq k) _ _ fun r c ch hch => ?_, fun y h1 h2 => ?_⟩,
    List.cons_ne_nil _ _,
    List.forall_mem_singleton.mpr ⟨good8_of x0 x1 x2 x3 _ _ _ 128 (off4_eq i k) _ _ fun a c ch hch => ?_, fun y h0 h1 h2 => ?_⟩,
    List.cons_ne_nil _ _⟩
  · obtain ⟨hw, he⟩ := hv c ch hch
    rw [pay15_apply, hw, he]
    unfold codeB
    congr 2
    exact Fin.ext (by show r.val / 32 * 32 + r.val % 32 = r.val; omega)
  · exact mem6_of (k0_off3 k) (128 * k.val) 128 (off3_eq k) (k0_off3_inb k) y h1 h2
  · obtain ⟨hw, he⟩ := hv c ch hch
    rw [pay16_apply, he]
  · exact mem8_of (k0_off4 i k) (i 1).val (128 * k.val) 128 (off4_eq i k) (k0_off4_inb i k) y h0 h1 h2

/-- The pieces of the trips before `k` are good and cover the channels before `128 * k`. -/
theorem pb_good (𝒱 : Variants) (c : Dev nD) (bd : Option 𝒱.V) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (k : ℕ) (hk : k ≤ 22) :
    (∀ p ∈ (pb_k0_t1 𝒱 c bd i arg2 harg2 arg3 harg3 arg4 harg4 arg5 harg5 arg6 harg6 arg7 harg7 arg8 harg8 x1 (harg2.unread x0) (harg4.unread x2) (harg5.unread x3) k).1, Good6 x0 x1 x2 x3 p)
    ∧ (∀ y : S1x2880x256.Idx, (y 1).val < 128 * k → ∃ p ∈ (pb_k0_t1 𝒱 c bd i arg2 harg2 arg3 harg3 arg4 harg4 arg5 harg5 arg6 harg6 arg7 harg7 arg8 harg8 x1 (harg2.unread x0) (harg4.unread x2) (harg5.unread x3) k).1, y ∈ p.1.set)
    ∧ (∀ p ∈ (pb_k0_t1 𝒱 c bd i arg2 harg2 arg3 harg3 arg4 harg4 arg5 harg5 arg6 harg6 arg7 harg7 arg8 harg8 x1 (harg2.unread x0) (harg4.unread x2) (harg5.unread x3) k).2, Good8 x0 x1 x2 x3 (i 1).val p)
    ∧ (∀ y : S128x2880.Idx, (y 0).val / 8 = (i 1).val → (y 1).val < 128 * k → ∃ p ∈ (pb_k0_t1 𝒱 c bd i arg2 harg2 arg3 harg3 arg4 harg4 arg5 harg5 arg6 harg6 arg7 harg7 arg8 harg8 x1 (harg2.unread x0) (harg4.unread x2) (harg5.unread x3) k).2, y ∈ p.1.set) := by
  induction k with
  | zero =>
    refine ⟨fun p hp => absurd hp List.not_mem_nil, fun y hy => absurd hy (by omega), fun p hp => absurd hp List.not_mem_nil,
      fun y _ hy => absurd hy (by omega)⟩
  | succ k ih =>
    obtain ⟨i1, i2, i3, i4⟩ := ih (by omega)
    have hkt : k < k0_t1_loop.trips := by rw [trips_22]; omega
    obtain ⟨g1, g2, g3, g4⟩ := trip_good x0 x1 x2 x3 𝒱 c bd i arg2 harg2 arg3 harg3 arg4 harg4 arg5 harg5 arg6 harg6 arg7 harg7 arg8 harg8 ⟨k, hkt⟩
    have hs := pb_k0_t1_succ (F := Ideal) 𝒱 c bd i arg2 harg2 arg3 harg3 arg4 harg4 arg5 harg5 arg6 harg6 arg7 harg7 arg8 harg8 x1 (harg2.unread x0) (harg4.unread x2) (harg5.unread x3) ⟨k, hkt⟩
    dsimp only at hs
    rw [hs]
    dsimp only
    refine ⟨fun p hp => ?_, fun y hy => ?_, fun p hp => ?_, fun y h0 hy => ?_⟩
    · rcases List.mem_append.mp hp with hp | hp
      · exact (g1 p hp).1
      · exact i1 p hp
    · by_cases h : (y 1).val < 128 * k
      · obtain ⟨p, hp, hy⟩ := i2 y h
        exact ⟨p, List.mem_append_right _ hp, hy⟩
      · obtain ⟨p, hp⟩ := List.exists_mem_of_ne_nil _ g2
        exact ⟨p, List.mem_append_left _ hp, (g1 p hp).2 y (by show 128 * k ≤ _; omega) (by show _ < 128 * k + 128; omega)⟩
    · rcases List.mem_append.mp hp with hp | hp
      · exact (g3 p hp).1
      · exact i3 p hp
    · by_cases h : (y 1).val < 128 * k
      · obtain ⟨p, hp, hy⟩ := i4 y h0 h
        exact ⟨p, List.mem_append_right _ hp, hy⟩
      · obtain ⟨p, hp⟩ := List.exists_mem_of_ne_nil _ g4
        exact ⟨p, List.mem_append_left _ hp, (g3 p hp).2 y h0 (by show 128 * k ≤ _; omega) (by show _ < 128 * k + 128; omega)⟩

/-- The values of the last 64 channels. -/
def tailW : FVec Ideal S8x32x64 .f32 :=
  k0_pay23 (k0_pay17 x1 (View.ld (Val := Elt Ideal) (e' := .bf16) x3 (Rect.unit (s := S90x2880) ![0, 2816] ![90, 64] inb_S90x2880_S90x64_0_2816)) (View.ld (Val := Elt Ideal) (e' := .fp8e4m3) x0 (Rect.unit (s := S1x256x2880) ![0, 0, 2816] ![1, 256, 64] inb_S1x256x2880_S1x256x64_0_0_2816))) (k0_pay20 (View.ld (Val := Elt Ideal) (e' := .bf16) x2 (Rect.unit (s := S1x256x2880) ![0, 0, 2816] ![1, 256, 64] inb_S1x256x2880_S1x256x64_0_0_2816))) (k0_pay21 (View.ld (Val := Elt Ideal) (e' := .bf16) x2 (Rect.unit (s := S1x256x2880) ![0, 0, 2816] ![1, 256, 64] inb_S1x256x2880_S1x256x64_0_0_2816))) (k0_pay22 (View.ld (Val := Elt Ideal) (e' := .bf16) x2 (Rect.unit (s := S1x256x2880) ![0, 0, 2816] ![1, 256, 64] inb_S1x256x2880_S1x256x64_0_0_2816)))

/-- Whether a largest magnitude of the last 64 channels is zero. -/
def tailZ : IVec S8x64 1 :=
  k0_pay26 (k0_pay17 x1 (View.ld (Val := Elt Ideal) (e' := .bf16) x3 (Rect.unit (s := S90x2880) ![0, 2816] ![90, 64] inb_S90x2880_S90x64_0_2816)) (View.ld (Val := Elt Ideal) (e' := .fp8e4m3) x0 (Rect.unit (s := S1x256x2880) ![0, 0, 2816] ![1, 256, 64] inb_S1x256x2880_S1x256x64_0_0_2816))) (k0_pay20 (View.ld (Val := Elt Ideal) (e' := .bf16) x2 (Rect.unit (s := S1x256x2880) ![0, 0, 2816] ![1, 256, 64] inb_S1x256x2880_S1x256x64_0_0_2816))) (k0_pay21 (View.ld (Val := Elt Ideal) (e' := .bf16) x2 (Rect.unit (s := S1x256x2880) ![0, 0, 2816] ![1, 256, 64] inb_S1x256x2880_S1x256x64_0_0_2816))) (k0_pay22 (View.ld (Val := Elt Ideal) (e' := .bf16) x2 (Rect.unit (s := S1x256x2880) ![0, 0, 2816] ![1, 256, 64] inb_S1x256x2880_S1x256x64_0_0_2816)))

/-- The biased exponents of the last 64 channels. -/
def tailE : IVec S8x64 32 :=
  k0_pay29 (k0_pay25 (k0_pay17 x1 (View.ld (Val := Elt Ideal) (e' := .bf16) x3 (Rect.unit (s := S90x2880) ![0, 2816] ![90, 64] inb_S90x2880_S90x64_0_2816)) (View.ld (Val := Elt Ideal) (e' := .fp8e4m3) x0 (Rect.unit (s := S1x256x2880) ![0, 0, 2816] ![1, 256, 64] inb_S1x256x2880_S1x256x64_0_0_2816))) (k0_pay20 (View.ld (Val := Elt Ideal) (e' := .bf16) x2 (Rect.unit (s := S1x256x2880) ![0, 0, 2816] ![1, 256, 64] inb_S1x256x2880_S1x256x64_0_0_2816))) (k0_pay21 (View.ld (Val := Elt Ideal) (e' := .bf16) x2 (Rect.unit (s := S1x256x2880) ![0, 0, 2816] ![1, 256, 64] inb_S1x256x2880_S1x256x64_0_0_2816))) (k0_pay22 (View.ld (Val := Elt Ideal) (e' := .bf16) x2 (Rect.unit (s := S1x256x2880) ![0, 0, 2816] ![1, 256, 64] inb_S1x256x2880_S1x256x64_0_0_2816))))
    (k0_pay27 (k0_pay17 x1 (View.ld (Val := Elt Ideal) (e' := .bf16) x3 (Rect.unit (s := S90x2880) ![0, 2816] ![90, 64] inb_S90x2880_S90x64_0_2816)) (View.ld (Val := Elt Ideal) (e' := .fp8e4m3) x0 (Rect.unit (s := S1x256x2880) ![0, 0, 2816] ![1, 256, 64] inb_S1x256x2880_S1x256x64_0_0_2816))) (k0_pay20 (View.ld (Val := Elt Ideal) (e' := .bf16) x2 (Rect.unit (s := S1x256x2880) ![0, 0, 2816] ![1, 256, 64] inb_S1x256x2880_S1x256x64_0_0_2816))) (k0_pay21 (View.ld (Val := Elt Ideal) (e' := .bf16) x2 (Rect.unit (s := S1x256x2880) ![0, 0, 2816] ![1, 256, 64] inb_S1x256x2880_S1x256x64_0_0_2816))) (k0_pay22 (View.ld (Val := Elt Ideal) (e' := .bf16) x2 (Rect.unit (s := S1x256x2880) ![0, 0, 2816] ![1, 256, 64] inb_S1x256x2880_S1x256x64_0_0_2816))))
    (k0_pay28 (k0_pay17 x1 (View.ld (Val := Elt Ideal) (e' := .bf16) x3 (Rect.unit (s := S90x2880) ![0, 2816] ![90, 64] inb_S90x2880_S90x64_0_2816)) (View.ld (Val := Elt Ideal) (e' := .fp8e4m3) x0 (Rect.unit (s := S1x256x2880) ![0, 0, 2816] ![1, 256, 64] inb_S1x256x2880_S1x256x64_0_0_2816))) (k0_pay20 (View.ld (Val := Elt Ideal) (e' := .bf16) x2 (Rect.unit (s := S1x256x2880) ![0, 0, 2816] ![1, 256, 64] inb_S1x256x2880_S1x256x64_0_0_2816))) (k0_pay21 (View.ld (Val := Elt Ideal) (e' := .bf16) x2 (Rect.unit (s := S1x256x2880) ![0, 0, 2816] ![1, 256, 64] inb_S1x256x2880_S1x256x64_0_0_2816))) (k0_pay22 (View.ld (Val := Elt Ideal) (e' := .bf16) x2 (Rect.unit (s := S1x256x2880) ![0, 0, 2816] ![1, 256, 64] inb_S1x256x2880_S1x256x64_0_0_2816))))

/-- The last 64 channels, at an index. -/
theorem tail_val (c : Fin 64) (ch : Fin 2880) (hch : ch.val = 2816 + c.val) :
    (∀ (a : Fin 8) (l : Fin 32), tailW x0 x1 x2 x3 (ix3 a l c) = wB x0 x1 x2 x3 ⟨a * 32 + l, by omega⟩ ch)
    ∧ ∀ a : Fin 8, k0_pay1 (tailZ x0 x1 x2 x3) (tailE x0 x1 x2 x3) (ix2 a c) = eB x0 x1 x2 x3 a ch := by
  have hw : ∀ (a : Fin 8) (l : Fin 32), tailW x0 x1 x2 x3 (ix3 a l c) = wB x0 x1 x2 x3 ⟨a * 32 + l, by omega⟩ ch := fun a l => by
    rw [tailW, pay23_apply, wB]
    have hm : ∀ r : Fin 256, kMul x1 (View.ld (Val := Elt Ideal) (e' := .bf16) x3 (Rect.unit (s := S90x2880) ![0, 2816] ![90, 64] inb_S90x2880_S90x64_0_2816)) r c
        = kMul x1 x3 r ch := fun r =>
      kMul_ld x1 x3 _ r c ch fun g => ld_at (e := .bf16) x3 ![0, 2816] rfl _ (ix2 g c) (ix2 g ch) fun d => by
        fin_cases d
        · show g.val = 0 + g.val; omega
        · exact hch
    have e : ∀ (X : S1x256x2880.Idx → EReal) (inb) (r : Fin 256),
        View.ld (Val := Elt Ideal) (e' := .f32) X (Rect.unit (s := S1x256x2880) ![0, 0, 2816] ![1, 256, 64] inb) (ix3 0 r c) = X (ix3 0 r ch) :=
      fun X inb r => ld_at (e := .f32) X ![0, 0, 2816] rfl _ (ix3 0 r c) (ix3 0 r ch) fun d => by
        fin_cases d
        · rfl
        · show r.val = 0 + r.val; omega
        · exact hch
    exact congrArg₂ (fun (p q : EReal) => p * q) (congrArg₂ (fun (p q : EReal) => p * q) (e x0 _ _) (hm _)) (congrArg kD (e x2 _ _))
  refine ⟨hw, fun a => ?_⟩
  rw [tailZ, tailE, pay1_apply, pay24_apply, eB]
  congr 2
  funext l
  rw [← hw a l]
  rfl

/-- The pieces one point leaves in the code block. -/
def all6 (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) : List (View.Piece (Elt Ideal) S1x2880x256 .fp8e4m3) :=
  ⟨Rect.unit (s := S1x2880x256) ![0, 2816, 0] ![1, 64, 256] inb_S1x2880x256_S1x64x256_0_2816_0,
    k0_pay2 (tailW x0 x1 x2 x3) (tailZ x0 x1 x2 x3) (tailE x0 x1 x2 x3)⟩ ::
    (pb_k0_t1 Variants.none c none i arg2 harg2 arg3 harg3 arg4 harg4 arg5 harg5 arg6 harg6 arg7 harg7 arg8 harg8 x1 (harg2.unread x0) (harg4.unread x2) (harg5.unread x3) 22).1

/-- The pieces one point leaves in the scratch. -/
def all8 (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) : List (View.Piece (Elt Ideal) S128x2880 .i32) :=
  ⟨Rect.unit (s := S128x2880) (k0_off5 i) ![8, 64] (k0_off5_inb i), k0_pay3 (tailZ x0 x1 x2 x3) (tailE x0 x1 x2 x3)⟩ ::
    (pb_k0_t1 Variants.none c none i arg2 harg2 arg3 harg3 arg4 harg4 arg5 harg5 arg6 harg6 arg7 harg7 arg8 harg8 x1 (harg2.unread x0) (harg4.unread x2) (harg5.unread x3) 22).2

/-- The pieces of one point are good; those of the code block cover it, those of the scratch cover the point's rows. -/
theorem all_good (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) :
    (∀ p ∈ all6 x0 x1 x2 x3 c i arg2 harg2 arg3 harg3 arg4 harg4 arg5 harg5 arg6 harg6 arg7 harg7 arg8 harg8, Good6 x0 x1 x2 x3 p)
    ∧ (∀ y : S1x2880x256.Idx, ∃ p ∈ all6 x0 x1 x2 x3 c i arg2 harg2 arg3 harg3 arg4 harg4 arg5 harg5 arg6 harg6 arg7 harg7 arg8 harg8, y ∈ p.1.set)
    ∧ (∀ p ∈ all8 x0 x1 x2 x3 c i arg2 harg2 arg3 harg3 arg4 harg4 arg5 harg5 arg6 harg6 arg7 harg7 arg8 harg8, Good8 x0 x1 x2 x3 (i 1).val p)
    ∧ (∀ y : S128x2880.Idx, (y 0).val / 8 = (i 1).val → ∃ p ∈ all8 x0 x1 x2 x3 c i arg2 harg2 arg3 harg3 arg4 harg4 arg5 harg5 arg6 harg6 arg7 harg7 arg8 harg8, y ∈ p.1.set) := by
  obtain ⟨i1, i2, i3, i4⟩ := pb_good x0 x1 x2 x3 Variants.none c none i arg2 harg2 arg3 harg3 arg4 harg4 arg5 harg5 arg6 harg6 arg7 harg7 arg8 harg8 22 le_rfl
  refine ⟨List.forall_mem_cons.mpr ⟨good6_of x0 x1 x2 x3 _ _ 64 rfl _ _ fun r c ch hch => ?_, i1⟩, fun y => ?_,
    List.forall_mem_cons.mpr ⟨good8_of x0 x1 x2 x3 _ _ _ 64 (off5_eq i) _ _ fun a c ch hch => ?_, i3⟩, fun y h0 => ?_⟩
  · obtain ⟨hw, he⟩ := tail_val x0 x1 x2 x3 c ch hch
    rw [pay2_apply, hw, he]
    unfold codeB
    congr 2
    exact Fin.ext (by show r.val / 32 * 32 + r.val % 32 = r.val; omega)
  · by_cases h : (y 1).val < 2816
    · obtain ⟨p, hp, hy⟩ := i2 y h
      exact ⟨p, List.mem_cons_of_mem _ hp, hy⟩
    · have hy : (y 1).val < 2880 := (y 1).isLt
      exact ⟨_, List.mem_cons_self, mem6_of ![0, 2816, 0] 2816 64 rfl inb_S1x2880x256_S1x64x256_0_2816_0 y (by omega) (by omega)⟩
  · obtain ⟨hw, he⟩ := tail_val x0 x1 x2 x3 c ch hch
    rw [pay3_apply, he]
  · by_cases h : (y 1).val < 2816
    · obtain ⟨p, hp, hy⟩ := i4 y h0 h
      exact ⟨p, List.mem_cons_of_mem _ hp, hy⟩
    · have hy : (y 1).val < 2880 := (y 1).isLt
      exact ⟨_, List.mem_cons_self, mem8_of (k0_off5 i) (i 1).val 2816 64 (off5_eq i) (k0_off5_inb i) y h0 (by omega) (by omega)⟩

end

section
open View
variable {sig : RefSig} {κ : Kind} {sp : Space} {s : Shape} {e : EltTy}

/-- Where every written piece agrees with `X` and the pieces cover a cell, the cell reads as `X`. -/
theorem read_writes_eq (v : View sig κ sp s e) (f : v.ty.Contents (Elt Ideal)) (X : s.Idx → Elt Ideal e) (y : s.Idx) :
    ∀ L : List (Piece (Elt Ideal) s e), (∀ p ∈ L, ∀ x : p.1.shape.Idx, p.2 x = X (p.1.emb x)) → (∃ p ∈ L, y ∈ p.1.set) →
      v.read (Elt Ideal) (v.writes (Elt Ideal) f L) y = X y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [read_writes_cons_emb]
      exact hP p List.mem_cons_self x
    · rw [writes_cons, read_slice_write_of_not_mem p.1 _ _ _ (by rw [Rect.map_emb_univ]; exact hy)]
      obtain ⟨q, hq, hyq⟩ := h
      rcases List.mem_cons.mp hq with rfl | hq
      · exact absurd hyq hy
      · exact read_writes_eq v f X y L (fun p' hp' => hP p' (List.mem_cons_of_mem _ hp')) ⟨q, hq, hyq⟩

end

/-- The piece lists of a step, in closed form. -/
theorem runA_lists (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : ¬ cond0_0 i) (s : Vec Ideal S128x2880 .i32)
    (x0 : Vec Ideal S1x256x2880 .fp8e4m3) (x1 : Vec Ideal S1x256x90 .i8) (x2 : Vec Ideal S1x256x2880 .bf16) (x3 : Vec Ideal S90x2880 .bf16) :
    (runA (F := Ideal) c i arg2 harg2 arg3 harg3 arg4 harg4 arg5 harg5 arg6 harg6 arg7 harg7 arg8 harg8 hc0 x0 x1 x2 x3 s).1 = all6 x0 x1 x2 x3 c i arg2 harg2 arg3 harg3 arg4 harg4 arg5 harg5 arg6 harg6 arg7 harg7 arg8 harg8
    ∧ (runA (F := Ideal) c i arg2 harg2 arg3 harg3 arg4 harg4 arg5 harg5 arg6 harg6 arg7 harg7 arg8 harg8 hc0 x0 x1 x2 x3 s).2.1 = all8 x0 x1 x2 x3 c i arg2 harg2 arg3 harg3 arg4 harg4 arg5 harg5 arg6 harg6 arg7 harg7 arg8 harg8 := by
  have k6 : (runA (F := Ideal) c i arg2 harg2 arg3 harg3 arg4 harg4 arg5 harg5 arg6 harg6 arg7 harg7 arg8 harg8 hc0 x0 x1 x2 x3 s).1
      = ⟨Rect.unit (s := S1x2880x256) ![0, 2816, 0] ![1, 64, 256] inb_S1x2880x256_S1x64x256_0_2816_0,
          k0_pay2 (tailW (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailZ (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailE (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3)))⟩ ::
        (pb_k0_t1 Variants.none c none i arg2 harg2 arg3 harg3 arg4 harg4 arg5 harg5 arg6 harg6 arg7 harg7 arg8 harg8 (View.readAt (Elt Ideal) arg3.view (Rect.unit (s := S1x256x90) ![0, 0, 0] ![1, 256, 90] inb_S1x256x90_S1x256x90_0_0_0).toLoadRect (harg3.unread x1)) (harg2.unread x0) (harg4.unread x2) (harg5.unread x3) (Scf.trips 0#32 (Scalar.addi 0#32 22#32) 1#32)).1 := by
    unfold runA
    rfl
  have k8 : (runA (F := Ideal) c i arg2 harg2 arg3 harg3 arg4 harg4 arg5 harg5 arg6 harg6 arg7 harg7 arg8 harg8 hc0 x0 x1 x2 x3 s).2.1
      = ⟨Rect.unit (s := S128x2880) (k0_off5 i) ![8, 64] (k0_off5_inb i), k0_pay3 (tailZ (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailE (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3)))⟩ ::
        (pb_k0_t1 Variants.none c none i arg2 harg2 arg3 harg3 arg4 harg4 arg5 harg5 arg6 harg6 arg7 harg7 arg8 harg8 (View.readAt (Elt Ideal) arg3.view (Rect.unit (s := S1x256x90) ![0, 0, 0] ![1, 256, 90] inb_S1x256x90_S1x256x90_0_0_0).toLoadRect (harg3.unread x1)) (harg2.unread x0) (harg4.unread x2) (harg5.unread x3) (Scf.trips 0#32 (Scalar.addi 0#32 22#32) 1#32)).2 := by
    unfold runA
    rfl
  have h1 : (View.readAt (Elt Ideal) arg3.view (Rect.unit (s := S1x256x90) ![0, 0, 0] ![1, 256, 90] inb_S1x256x90_S1x256x90_0_0_0).toLoadRect (harg3.unread x1)) = x1 := (View.readAt_full _ _ _).trans (harg3.read_unread x1)
  have ht : Scf.trips 0#32 (Scalar.addi 0#32 22#32) 1#32 = 22 := by decide
  rw [h1, ht, harg2.read_unread, harg4.read_unread, harg5.read_unread] at k6 k8
  exact ⟨k6.trans (by rw [all6]), k8.trans (by rw [all8])⟩

/-- The piece lists of a step, in closed form. -/
theorem runB_lists (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : cond0_0 i) (s : Vec Ideal S128x2880 .i32)
    (x0 : Vec Ideal S1x256x2880 .fp8e4m3) (x1 : Vec Ideal S1x256x90 .i8) (x2 : Vec Ideal S1x256x2880 .bf16) (x3 : Vec Ideal S90x2880 .bf16) :
    (runB (F := Ideal) c i arg2 harg2 arg3 harg3 arg4 harg4 arg5 harg5 arg6 harg6 arg7 harg7 arg8 harg8 hc0 x0 x1 x2 x3 s).1 = all6 x0 x1 x2 x3 c i arg2 harg2 arg3 harg3 arg4 harg4 arg5 harg5 arg6 harg6 arg7 harg7 arg8 harg8
    ∧ (runB (F := Ideal) c i arg2 harg2 arg3 harg3 arg4 harg4 arg5 harg5 arg6 harg6 arg7 harg7 arg8 harg8 hc0 x0 x1 x2 x3 s).2.2.1 = all8 x0 x1 x2 x3 c i arg2 harg2 arg3 harg3 arg4 harg4 arg5 harg5 arg6 harg6 arg7 harg7 arg8 harg8 := by
  have k6 : (runB (F := Ideal) c i arg2 harg2 arg3 harg3 arg4 harg4 arg5 harg5 arg6 harg6 arg7 harg7 arg8 harg8 hc0 x0 x1 x2 x3 s).1
      = ⟨Rect.unit (s := S1x2880x256) ![0, 2816, 0] ![1, 64, 256] inb_S1x2880x256_S1x64x256_0_2816_0,
          k0_pay2 (tailW (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailZ (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailE (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3)))⟩ ::
        (pb_k0_t1 Variants.none c none i arg2 harg2 arg3 harg3 arg4 harg4 arg5 harg5 arg6 harg6 arg7 harg7 arg8 harg8 (View.readAt (Elt Ideal) arg3.view (Rect.unit (s := S1x256x90) ![0, 0, 0] ![1, 256, 90] inb_S1x256x90_S1x256x90_0_0_0).toLoadRect (harg3.unread x1)) (harg2.unread x0) (harg4.unread x2) (harg5.unread x3) (Scf.trips 0#32 (Scalar.addi 0#32 22#32) 1#32)).1 := by
    unfold runB
    rfl
  have k8 : (runB (F := Ideal) c i arg2 harg2 arg3 harg3 arg4 harg4 arg5 harg5 arg6 harg6 arg7 harg7 arg8 harg8 hc0 x0 x1 x2 x3 s).2.2.1
      = ⟨Rect.unit (s := S128x2880) (k0_off5 i) ![8, 64] (k0_off5_inb i), k0_pay3 (tailZ (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3))) (tailE (arg2.view.read (Elt Ideal) (harg2.unread x0)) (View.readAt (Elt Ideal) arg3.view (Rect.unit (s := S1x256x90) ![0, 0, 0] ![1, 256, 90] inb_S1x256x90_S1x256x90_0_0_0).toLoadRect (harg3.unread x1)) (arg4.view.read (Elt Ideal) (harg4.unread x2)) (arg5.view.read (Elt Ideal) (harg5.unread x3)))⟩ ::
        (pb_k0_t1 Variants.none c none i arg2 harg2 arg3 harg3 arg4 harg4 arg5 harg5 arg6 harg6 arg7 harg7 arg8 harg8 (View.readAt (Elt Ideal) arg3.view (Rect.unit (s := S1x256x90) ![0, 0, 0] ![1, 256, 90] inb_S1x256x90_S1x256x90_0_0_0).toLoadRect (harg3.unread x1)) (harg2.unread x0) (harg4.unread x2) (harg5.unread x3) (Scf.trips 0#32 (Scalar.addi 0#32 22#32) 1#32)).2 := by
    unfold runB
    rfl
  have h1 : (View.readAt (Elt Ideal) arg3.view (Rect.unit (s := S1x256x90) ![0, 0, 0] ![1, 256, 90] inb_S1x256x90_S1x256x90_0_0_0).toLoadRect (harg3.unread x1)) = x1 := (View.readAt_full _ _ _).trans (harg3.read_unread x1)
  have ht : Scf.trips 0#32 (Scalar.addi 0#32 22#32) 1#32 = 22 := by decide
  rw [h1, ht, harg2.read_unread, harg4.read_unread, harg5.read_unread] at k6 k8
  exact ⟨k6.trans (by rw [all6]), k8.trans (by rw [all8])⟩

section
variable (x0 : Vec Ideal S1x256x2880 .fp8e4m3) (x1 : Vec Ideal S1x256x90 .i8) (x2 : Vec Ideal S1x256x2880 .bf16) (x3 : Vec Ideal S90x2880 .bf16)

/-- The code block after a point's writes. -/
theorem read_all6 (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (f : arg6.view.ty.Contents (Elt Ideal)) :
    arg6.view.read (Elt Ideal) (arg6.view.writes (Elt Ideal) f (all6 x0 x1 x2 x3 c i arg2 harg2 arg3 harg3 arg4 harg4 arg5 harg5 arg6 harg6 arg7 harg7 arg8 harg8)) = blk6 x0 x1 x2 x3 := by
  obtain ⟨g1, g2, -, -⟩ := all_good x0 x1 x2 x3 c i arg2 harg2 arg3 harg3 arg4 harg4 arg5 harg5 arg6 harg6 arg7 harg7 arg8 harg8
  exact funext fun y => read_writes_eq _ _ _ y _ g1 (g2 y)

/-- The scratch after a point's writes: the point's eight rows are its exponent words, the others stay. -/
theorem read_all8 (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (f : arg8.view.ty.Contents (Elt Ideal)) (y : S128x2880.Idx) :
    arg8.view.read (Elt Ideal) (arg8.view.writes (Elt Ideal) f (all8 x0 x1 x2 x3 c i arg2 harg2 arg3 harg3 arg4 harg4 arg5 harg5 arg6 harg6 arg7 harg7 arg8 harg8)) y
      = if (y 0).val / 8 = (i 1).val then row8 x0 x1 x2 x3 y else arg8.view.read (Elt Ideal) f y := by
  obtain ⟨-, -, g3, g4⟩ := all_good x0 x1 x2 x3 c i arg2 harg2 arg3 harg3 arg4 harg4 arg5 harg5 arg6 harg6 arg7 harg7 arg8 harg8
  split_ifs with h
  · exact read_writes_eq _ _ _ y _ (fun p hp => (g3 p hp).1) (g4 y h)
  · exact View.read_writes_apply_of_forall_not_mem _ _ y _ fun p hp hy => h ((g3 p hp).2 y hy)

end

/-- The scale block the last step of an image writes: the scratch, transposed and cut to bytes. -/
theorem runB_scale (c : Dev nD) (i : grid0.Coords) (arg2 : Memref sig .tc .vmem S1x256x2880 .fp8e4m3) (harg2 : arg2.IsWhole) (arg3 : Memref sig .tc .vmem S1x256x90 .i8) (harg3 : arg3.IsWhole) (arg4 : Memref sig .tc .vmem S1x256x2880 .bf16) (harg4 : arg4.IsWhole) (arg5 : Memref sig .tc .vmem S90x2880 .bf16) (harg5 : arg5.IsWhole) (arg6 : Memref sig .tc .vmem S1x2880x256 .fp8e4m3) (harg6 : arg6.IsWhole) (arg7 : Memref sig .tc .vmem S1x2880x128 .i8) (harg7 : arg7.IsWhole) (arg8 : Memref sig .tc .vmem S128x2880 .i32) (harg8 : arg8.IsWhole) (hc0 : cond0_0 i) (s : Vec Ideal S128x2880 .i32)
    (x0 : Vec Ideal S1x256x2880 .fp8e4m3) (x1 : Vec Ideal S1x256x90 .i8) (x2 : Vec Ideal S1x256x2880 .bf16) (x3 : Vec Ideal S90x2880 .bf16)
    (f : arg7.view.ty.Contents (Elt Ideal)) :
    arg7.view.read (Elt Ideal) (arg7.view.writes (Elt Ideal) f (runB (F := Ideal) c i arg2 harg2 arg3 harg3 arg4 harg4 arg5 harg5 arg6 harg6 arg7 harg7 arg8 harg8 hc0 x0 x1 x2 x3 s).2.1)
      = fun y => BitVec.setWidth 8 (if (y 2).val / 8 = (i 1).val then row8 x0 x1 x2 x3 (ix2 (y 2) (y 1)) else s (ix2 (y 2) (y 1))) := by
  have k7 : (runB (F := Ideal) c i arg2 harg2 arg3 harg3 arg4 harg4 arg5 harg5 arg6 harg6 arg7 harg7 arg8 harg8 hc0 x0 x1 x2 x3 s).2.1
      = [⟨Rect.unit (s := S1x2880x128) ![0, 0, 0] ![1, 2880, 128] inb_S1x2880x128_S1x2880x128_0_0_0,
          k0_pay4 (View.readAt (Elt Ideal) arg8.view (Rect.unit (s := S128x2880) ![0, 0] ![128, 2880] inb_S128x2880_S128x2880_0_0).toLoadRect
            (arg8.view.writes (Elt Ideal) (harg8.unread s) (runB (F := Ideal) c i arg2 harg2 arg3 harg3 arg4 harg4 arg5 harg5 arg6 harg6 arg7 harg7 arg8 harg8 hc0 x0 x1 x2 x3 s).2.2.1))⟩] := by
    unfold runB
    rfl
  rw [k7, (runB_lists c i arg2 harg2 arg3 harg3 arg4 harg4 arg5 harg5 arg6 harg6 arg7 harg7 arg8 harg8 hc0 s x0 x1 x2 x3).2, View.readAt_full]
  funext y
  obtain ⟨a, ch, b, rfl⟩ : ∃ a ch b, y = ix3 a ch b := ⟨_, _, _, (ix3_eta y).symm⟩
  have ha : a = 0 := Subsingleton.elim _ _
  subst ha
  refine (View.read_writes_cons_unit_of_mem (x := ix3 0 ch b) _ _ _ _ _ _ rfl fun d => ?_).trans ?_
  · fin_cases d
    · rfl
    · show ch.val = 0 + ch.val; omega
    · show b.val = 0 + b.val; omega
  · rw [pay4_apply, read_all8, harg8.read_unread]
    rfl

end Cert.KernelIdeal.Gen

end
-- ==== Proof.KernelRun.lean ====
/- The kernel's run: what every grid point leaves in the code block, in the scratch and, at the last point of an
   image, in the scale block; the launch over it, and the frame. -/
module

public import proofs.«01_k».proof.Proof.Pieces
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the points leave -/

/-- The four input blocks of the body at a point. -/
abbrev in0 (c : Dev nD) (t : Fin cfg0.N) : Vec Ideal S1x256x2880 .fp8e4m3 := iblk m c 0 t
abbrev in1 (c : Dev nD) (t : Fin cfg0.N) : Vec Ideal S1x256x90 .i8 := iblk m c 1 t
abbrev in2 (c : Dev nD) (t : Fin cfg0.N) : Vec Ideal S1x256x2880 .bf16 := iblk m c 2 t
abbrev in3 (c : Dev nD) (t : Fin cfg0.N) : Vec Ideal S90x2880 .bf16 := iblk m c 3 t

/-- The point numbered `q`. -/
def ptOf (q : ℕ) : Fin cfg0.N := ⟨q % 128, by rw [show cfg0.N = 128 from N_0]; exact Nat.mod_lt _ (by decide)⟩

/-- The exponent word of scratch row `b`, written by point `q`. -/
def word (c : Dev nD) (q : ℕ) (b : Fin 128) (ch : Fin 2880) : BitVec 32 :=
  row8 (in0 m c (ptOf q)) (in1 m c (ptOf q)) (in2 m c (ptOf q)) (in3 m c (ptOf q)) (ix2 b ch)

/-- The scale block of the image of point `t`: every row's word, cut to a byte. -/
def scaleBlk (c : Dev nD) (t : ℕ) : Vec Ideal S1x2880x128 .i8 := fun y =>
  BitVec.setWidth 8 (word m c (t / 16 * 16 + (y 2).val / 8) (y 2) (y 1))

/-- The scratch before point `t`: the rows of the image's earlier points hold their words. -/
def Held (c : Dev nD) (t : ℕ) (s : Vec Ideal S128x2880 .i32) : Prop :=
  ∀ (b : Fin 128) (ch : Fin 2880), b.val / 8 < t % 16 → s (ix2 b ch) = word m c (t / 16 * 16 + b.val / 8) b ch

/-! ## The pipeline's proof data -/

/-- The proof data: inputs at their blocks, the code block at the point's codes, the scale block at the image's bytes
    (stated at every point, owed at the last of an image only), the invariant that the scratch holds the earlier points' words. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk6 (in0 m c t) (in1 m c t) (in2 m c t) (in3 m c t)
    | ⟨5, _⟩ => scaleBlk m c t.val
  Φ t := iprop((∃ s, owns (c : Thread nD τ) scM0_0 fullShare s ∗ ⌜Held m c t.val s⌝) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
/-- The code block after a point. -/
theorem after0_4 (c : Dev nD) (t : Fin cfg0.N) :
    (dats m 0 c).after 4 t = blk6 (in0 m c t) (in1 m c t) (in2 m c t) (in3 m c t) := by dsimp only [dats]
/-- The scale block after the last point of an image. -/
theorem after0_5 (c : Dev nD) (t : Fin cfg0.N) : (dats m 0 c).after 5 t = scaleBlk m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the scale window is idle -/

theorem idle5_A (t : Fin cfg0.N) (h : ¬ t.val % 16 = 15) : cfg0.idle 5 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl
theorem idle5_B (t : Fin cfg0.N) (h : t.val % 16 = 15) : cfg0.idle 5 (grid0.coords t) = false := by
  have h' : k0_cond1 (grid0.coords t) = 1#1 := (hcond0_0 t).mpr h
  show (!(k0_cond1 (grid0.coords t) == 1#1)) = false
  rw [h']; rfl

/-- The point's second coordinate is its number within the image. -/
theorem coord1 (t : Fin cfg0.N) : (grid0.coords t 1).val = t.val % 16 := by
  have ht : t.val < 128 := Nat.lt_of_lt_of_eq t.isLt N_0
  have e1 : (grid0.coords t 1).val = t.val / 1 % 16 := Pipeline.Grid.coords_val t 1 (by decide) rfl
  omega

theorem ptOf_val (t : Fin cfg0.N) (q : ℕ) (h : q = t.val) : ptOf q = t := by
  have ht : t.val < 128 := Nat.lt_of_lt_of_eq t.isLt N_0
  subst h
  exact Fin.ext (Nat.mod_eq_of_lt ht)

/-- The scratch after a point: its rows updated, the earlier points' rows kept. -/
theorem held_word (c : Dev nD) (t : Fin cfg0.N) (s : Vec Ideal S128x2880 .i32) (hs : Held m c t.val s)
    (b : Fin 128) (ch : Fin 2880) (hb : b.val / 8 ≤ t.val % 16) :
    (if b.val / 8 = (grid0.coords t 1).val then row8 (in0 m c t) (in1 m c t) (in2 m c t) (in3 m c t) (ix2 b ch) else s (ix2 b ch))
      = word m c (t.val / 16 * 16 + b.val / 8) b ch := by
  rw [coord1]
  split_ifs with h
  · rw [word, ptOf_val t _ (by omega)]
  · exact hs b ch (by omega)

/-- The scratch after point `t`: the point's eight rows its exponent words, the others as they were. -/
def nextS (c : Dev nD) (t : Fin cfg0.N) (s : Vec Ideal S128x2880 .i32) : Vec Ideal S128x2880 .i32 := fun y =>
  if (y 0).val / 8 = (grid0.coords t 1).val then row8 (in0 m c t) (in1 m c t) (in2 m c t) (in3 m c t) y else s y

/-- A memref whose contents read as `X` is owned at `X`. -/
theorem owns_of {s : Shape} {e : EltTy} (c : Dev nD) (M : Memref sig .tc .vmem s e) (f : M.view.ty.Contents (Elt Ideal)) (X : Vec Ideal s e)
    (h : M.view.read (Elt Ideal) f = X) :
    (M.view.loc (c : Thread nD τ) ↦[M.view.set]{fullShare} f : sProp 𝕄) ⊢ owns (c : Thread nD τ) M fullShare X := by
  rw [owns.eq_def]
  iintro H
  iexists f
  isplitr; · ipureintro; exact h
  iexact H

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]
theorem leaves4 (c : Dev nD) (t : Fin cfg0.N) : (dats m 0 c).leavesExact 4 t
    = owns (c : Thread nD τ) (ms0_4 t) fullShare (blk6 (in0 m c t) (in1 m c t) (in2 m c t) (in3 m c t)) := by
  unfold Dat.leavesExact; rw [show cfg0.idle 4 (grid0.coords t) = false from rfl, after0_4]
theorem leaves5_B (c : Dev nD) (t : Fin cfg0.N) (h : t.val % 16 = 15) : (dats m 0 c).leavesExact 5 t
    = owns (c : Thread nD τ) (ms0_5 t) fullShare (scaleBlk m c t.val) := by
  unfold Dat.leavesExact; rw [idle5_B t h, after0_5]
theorem leaves5_A (c : Dev nD) (t : Fin cfg0.N) (h : ¬ t.val % 16 = 15) : (dats m 0 c).leavesExact 5 t
    = iprop(∃ d, owns (c : Thread nD τ) (ms0_5 t) fullShare ((dats m 0 c).before 5 t d)) :=
  (dats m 0 c).leavesExact_idle 5 t (idle5_A t h) (Bool.eq_false_iff.mpr fun e => h ((flush0_5 t).mp e))

theorem Phi_succ (c : Dev nD) (t : Fin cfg0.N) : (dats m 0 c).Φ t.succ
    = iprop((∃ s, owns (c : Thread nD τ) scM0_0 fullShare s ∗ ⌜Held m c (t.val + 1) s⌝) ∗ (∃ r, prngReg c r)) := rfl
theorem Phi_castSucc (c : Dev nD) (t : Fin cfg0.N) : (dats m 0 c).Φ t.castSucc
    = iprop((∃ s, owns (c : Thread nD τ) scM0_0 fullShare s ∗ ⌜Held m c t.val s⌝) ∗ (∃ r, prngReg c r)) := rfl

set_option maxHeartbeats 1000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [Phi_succ, Phi_castSucc, leaves0, leaves1, leaves2, leaves3, leaves4,
    show (dats m 0 c).owesAt () t.succ = (dats m 0 c).owesAt () t.castSucc from rfl]
  have hN : t.val < 128 := lt_of_lt_of_eq t.isLt (show cfg0.N = 128 from N_0)
  have hsc : (scM0_0).IsWhole := Memref.isWhole_whole _
  by_cases h0 : t.val % 16 = 15
  · rw [leaves5_B m c t h0]
    iintro ⟨⟨⟨%s, HS0, %hs⟩, Hg⟩, Ho, ⟨%d0, H0⟩, ⟨%d1, H1⟩, ⟨%d2, H2⟩, ⟨%d3, H3⟩, ⟨%d4, H4⟩, ⟨%d5, H5⟩⟩
    have hl := runB_lists c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) s (in0 m c t) (in1 m c t) (in2 m c t) (in3 m c t)
    have e8 : (scM0_0).view.read (Elt Ideal) ((scM0_0).view.writes (Elt Ideal) (hsc.unread s) (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) (in0 m c t) (in1 m c t) (in2 m c t) (in3 m c t) s).2.2.1) = nextS m c t s := by
      refine (congrArg (fun L => (scM0_0).view.read (Elt Ideal) ((scM0_0).view.writes (Elt Ideal) (hsc.unread s) L)) hl.2).trans (funext fun y => ?_)
      refine (read_all8 (in0 m c t) (in1 m c t) (in2 m c t) (in3 m c t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (hsc.unread s) y).trans ?_
      rw [hsc.read_unread]
      rfl
    have e6 : ∀ f4, (ms0_4 t).view.read (Elt Ideal) ((ms0_4 t).view.writes (Elt Ideal) f4 (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) (in0 m c t) (in1 m c t) (in2 m c t) (in3 m c t) s).1) = blk6 (in0 m c t) (in1 m c t) (in2 m c t) (in3 m c t) := fun f4 =>
      (congrArg (fun L => (ms0_4 t).view.read (Elt Ideal) ((ms0_4 t).view.writes (Elt Ideal) f4 L)) hl.1).trans (read_all6 (in0 m c t) (in1 m c t) (in2 m c t) (in3 m c t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc f4)
    have e7 : ∀ f5, (ms0_5 t).view.read (Elt Ideal) ((ms0_5 t).view.writes (Elt Ideal) f5 (runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) (in0 m c t) (in1 m c t) (in2 m c t) (in3 m c t) s).2.1) = scaleBlk m c t.val := fun f5 => by
      refine (runB_scale c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) s (in0 m c t) (in1 m c t) (in2 m c t) (in3 m c t) f5).trans (funext fun y => congrArg (BitVec.setWidth 8) ?_)
      have hy : (y 2).val < 128 := (y 2).isLt
      exact held_word m c t s hs (y 2) (y 1) (by omega)
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc ((hcond0_0 t).mpr h0) (in0 m c t) (in1 m c t) (in2 m c t) (in3 m c t) s).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, ⟨%f4, H4⟩, ⟨%f5, H5⟩, HS0⟩
    isplitl [HS0 Hg]
    · isplitl [HS0]
      · iexists (nextS m c t s)
        isplitl [HS0]
        · iapply (owns_of c scM0_0 _ _ e8)
          iexact HS0
        · ipureintro
          intro b ch hb
          exact absurd hb (by omega)
      iexact Hg
    isplitl [Ho]; · iexact Ho
    isplitl [H0]; · iexact H0
    isplitl [H1]; · iexact H1
    isplitl [H2]; · iexact H2
    isplitl [H3]; · iexact H3
    isplitl [H4]
    · iapply (owns_of c (ms0_4 t) _ _ (e6 f4))
      iexact H4
    iapply (owns_of c (ms0_5 t) _ _ (e7 f5))
    iexact H5
  · rw [leaves5_A m c t h0]
    iintro ⟨⟨⟨%s, HS0, %hs⟩, Hg⟩, Ho, ⟨%d0, H0⟩, ⟨%d1, H1⟩, ⟨%d2, H2⟩, ⟨%d3, H3⟩, ⟨%d4, H4⟩, ⟨%d5, H5⟩⟩
    have hl := runA_lists c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h0 ((hcond0_0 t).mp h)) s (in0 m c t) (in1 m c t) (in2 m c t) (in3 m c t)
    have e8 : (scM0_0).view.read (Elt Ideal) ((scM0_0).view.writes (Elt Ideal) (hsc.unread s) (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h0 ((hcond0_0 t).mp h)) (in0 m c t) (in1 m c t) (in2 m c t) (in3 m c t) s).2.1) = nextS m c t s := by
      refine (congrArg (fun L => (scM0_0).view.read (Elt Ideal) ((scM0_0).view.writes (Elt Ideal) (hsc.unread s) L)) hl.2).trans (funext fun y => ?_)
      refine (read_all8 (in0 m c t) (in1 m c t) (in2 m c t) (in3 m c t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (hsc.unread s) y).trans ?_
      rw [hsc.read_unread]
      rfl
    have e6 : ∀ f4, (ms0_4 t).view.read (Elt Ideal) ((ms0_4 t).view.writes (Elt Ideal) f4 (runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h0 ((hcond0_0 t).mp h)) (in0 m c t) (in1 m c t) (in2 m c t) (in3 m c t) s).1) = blk6 (in0 m c t) (in1 m c t) (in2 m c t) (in3 m c t) := fun f4 =>
      (congrArg (fun L => (ms0_4 t).view.read (Elt Ideal) ((ms0_4 t).view.writes (Elt Ideal) f4 L)) hl.1).trans (read_all6 (in0 m c t) (in1 m c t) (in2 m c t) (in3 m c t) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc f4)
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 hsc (fun h => h0 ((hcond0_0 t).mp h)) (in0 m c t) (in1 m c t) (in2 m c t) (in3 m c t) s).2.2 _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, ⟨%f4, H4⟩, H5, HS0⟩
    isplitl [HS0 Hg]
    · isplitl [HS0]
      · iexists (nextS m c t s)
        isplitl [HS0]
        · iapply (owns_of c scM0_0 _ _ e8)
          iexact HS0
        · ipureintro
          intro b ch hb
          have e1 : (t.val + 1) / 16 = t.val / 16 := by omega
          rw [e1]
          exact held_word m c t s hs b ch (by omega)
      iexact Hg
    isplitl [Ho]; · iexact Ho
    isplitl [H0]; · iexact H0
    isplitl [H1]; · iexact H1
    isplitl [H2]; · iexact H2
    isplitl [H3]; · iexact H3
    isplitl [H4]
    · iapply (owns_of c (ms0_4 t) _ _ (e6 f4))
      iexact H4
    iexists d5
    iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

theorem Phi_in (c : Dev nD) : Pipeline.ΦA (Val := Elt Ideal) spec0 c ⊢ (dats m 0 c).Φ 0 := by
  rw [PhiA0_eq, show (dats m 0 c).Φ 0 = iprop((∃ s, owns (c : Thread nD τ) scM0_0 fullShare s ∗ ⌜Held m c 0 s⌝) ∗ (∃ r, prngReg c r)) from rfl]
  iintro ⟨⟨%d, H⟩, Hg⟩
  isplitl [H]
  · iexists d
    isplitl [H]; · iexact H
    ipureintro
    intro b ch hb
    exact absurd hb (by omega)
  iexact Hg

theorem Phi_out (c : Dev nD) : (dats m 0 c).Φ (Fin.last cfg0.N) ⊢ Pipeline.ΦA (Val := Elt Ideal) spec0 c := by
  rw [PhiA0_eq, show (dats m 0 c).Φ (Fin.last cfg0.N) = iprop((∃ s, owns (c : Thread nD τ) scM0_0 fullShare s ∗ ⌜Held m c cfg0.N s⌝) ∗ (∃ r, prngReg c r)) from rfl]
  iintro ⟨⟨%d, H, -⟩, Hg⟩
  isplitl [H]
  · iexists d
    iexact H
  iexact Hg

set_option backward.isDefEq.respectTransparency.types false in
/-- The launch: every weakly fair execution ends, the arrays at what the windows leave, every semaphore counter at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

/-- The frame: the argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.Selector.lean ====
/- The selector that the host lines make before the region: column `ch` holds 1 at row `ch / 32` and 0 elsewhere. -/
module

public import proofs.«01_k».proof.Proof.Gen.KernelIdeal.Frame
public import Idealize.ShloMosaic.Lib.StableHlo.ReadAt
public import Idealize.ShloMosaic.Lib.Pointwise

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ)

/-- The host's floor division by 32, at a channel's word. -/
def hostDiv (x : BitVec 32) : BitVec 32 :=
  Scalar.select
    (IntOp.andi
      (IntOp.cmpi CmpIPredicate.ne (if x = 0 then (0 : BitVec 32) else if x.msb = true then -1 else 1)
        (if (32#32) = 0 then (0 : BitVec 32) else if BitVec.msb (32#32) = true then -1 else 1))
      (IntOp.cmpi CmpIPredicate.ne (IntOp.remsi ArithUnit.host x 32#32) 0#32))
    (IntOp.subi (IntOp.divsi ArithUnit.host x 32#32) 1#32)
    (IntOp.divsi ArithUnit.host x 32#32)

theorem hostDiv_eq : ∀ ch : Fin 2880, hostDiv (BitVec.ofNat 32 ch) = BitVec.ofNat 32 (ch / 32) := by decide +kernel

/-- The selector, entry by entry. -/
theorem sel_eq (c : Dev nD) (g : Fin 90) (ch : Fin 2880) :
    V m c main_v8 (ix2 g ch) = if g.val = ch.val / 32 then (1 : EReal) else 0 := by
  unfold V
  simp only [hostOps0, hostOps0_1, hostOps0_2, List.flatten_cons, List.flatten_nil, List.append_nil, List.cons_append, List.nil_append]
  after_reads_at
  show FloatOps.uitofp (F := Ideal) FTy.bf16 (IntOp.cmpi CmpIPredicate.eq (BitVec.ofNat 32 g.val) (hostDiv (BitVec.ofNat 32 ch.val))) = _
  rw [hostDiv_eq]
  have hg := g.isLt
  have hc := ch.isLt
  by_cases h : g.val = ch.val / 32
  · rw [if_pos h, h, show IntOp.cmpi CmpIPredicate.eq (BitVec.ofNat 32 (ch.val / 32)) (BitVec.ofNat 32 (ch.val / 32)) = 1#1 by simp [IntOp.cmpi]]
    show (((1#1 : BitVec 1).toNat : ℝ) : EReal) = 1
    norm_num
  · rw [if_neg h, show IntOp.cmpi CmpIPredicate.eq (BitVec.ofNat 32 g.val) (BitVec.ofNat 32 (ch.val / 32)) = 0#1 by
      have : BitVec.ofNat 32 g.val ≠ BitVec.ofNat 32 (ch.val / 32) := fun e => h (by
        have := congrArg BitVec.toNat e
        simp only [BitVec.toNat_ofNat] at this
        omega)
      show BitVec.ofBool (_ == _) = 0#1
      rw [beq_eq_false_iff_ne.mpr this]
      rfl]
    show (((0#1 : BitVec 1).toNat : ℝ) : EReal) = 0
    norm_num

end Cert.KernelIdeal.Gen

end
-- ==== Proof.Scalar.lean ====
/- The scalar mathematics: the reference's element formulas, and the kernel's equal to them. -/
module

public import proofs.«01_k».proof.Proof.Spec
public import proofs.«01_k».proof.Proof.Gen.ReferenceIdeal.Skeleton

@[expose] public section

set_option maxRecDepth 16384

noncomputable section

namespace Cert.KernelIdeal.Gen

open Idealize.ShloMosaic Idealize.SL.Sem

/-! ### Powers of two -/

/-- The power of two an integer word names. -/
def rPow (b : BitVec 32) : EReal := Ideal.exp2 ((b.toInt : ℝ) : EReal)

theorem rPow_eq (b : BitVec 32) : rPow b = (((2 : ℝ) ^ (b.toInt : ℤ) : ℝ) : EReal) := by
  unfold rPow
  rw [Ideal.exp2_coe]
  exact congrArg _ (Real.rpow_intCast 2 b.toInt)

theorem kPow_fields : ∀ k : Fin 256,
    (((IntOp.shli ArithUnit.vector (BitVec.ofNat 32 k.val) 23#32).extractLsb' 31 1 == 1#1) = false)
    ∧ ((IntOp.shli ArithUnit.vector (BitVec.ofNat 32 k.val) 23#32).extractLsb' 23 8).toNat = k.val
    ∧ ((IntOp.shli ArithUnit.vector (BitVec.ofNat 32 k.val) 23#32).extractLsb' 0 23).toNat = 0 := by
  decide +kernel

theorem normal_real (k : ℕ) :
    (1 : ℝ) * ((2 ^ 23 + 0 : ℕ) : ℝ) * (2 : ℝ) ^ ((k : ℤ) - (2 ^ (8 - 1) - 1) - ((23 : ℕ) : ℤ)) = (2 : ℝ) ^ ((k : ℤ) - 127) := by
  have h : (k : ℤ) - (2 ^ (8 - 1) - 1) - ((23 : ℕ) : ℤ) = ((k : ℤ) - 127) + -23 := by
    norm_num
    ring
  have h2 : ((2 ^ 23 + 0 : ℕ) : ℝ) = 8388608 := by norm_num
  rw [h, h2, zpow_add₀ (by norm_num : (2 : ℝ) ≠ 0), show (2 : ℝ) ^ (-23 : ℤ) = 1 / 8388608 by norm_num]
  ring

theorem kPow_ofNat (k : ℕ) (h : k < 256) :
    kPow (BitVec.ofNat 32 k) = if k = 255 then ⊤ else if k = 0 then 0 else (((2 : ℝ) ^ ((k : ℤ) - 127) : ℝ) : EReal) := by
  obtain ⟨h1, h2, h3⟩ := kPow_fields ⟨k, h⟩
  simp only at h1 h2 h3
  unfold kPow
  show Ideal.ieee 8 23 _ = _
  unfold Ideal.ieee
  have e : (2 ^ 8 - 1 : ℕ) = 255 := rfl
  simp only [h1, h2, h3, e, Bool.false_eq_true, if_true, if_false]
  by_cases ha : k = 255
  · rw [if_pos ha, if_pos ha]
  · by_cases hb : k = 0
    · rw [if_neg ha, if_neg ha, if_pos hb, if_pos hb]
      simp
    · rw [if_neg ha, if_neg ha, if_neg hb, if_neg hb]
      rw [normal_real]

theorem kPow_normal (k : ℕ) (h1 : 1 ≤ k) (h2 : k ≤ 254) :
    kPow (BitVec.ofNat 32 k) = (((2 : ℝ) ^ ((k : ℤ) - 127) : ℝ) : EReal) := by
  rw [kPow_ofNat k (by omega), if_neg (by omega), if_neg (by omega)]

theorem kPow_mono {j k : ℕ} (h : j ≤ k) (hk : k < 256) : kPow (BitVec.ofNat 32 j) ≤ kPow (BitVec.ofNat 32 k) := by
  by_cases hk' : k = 255
  · rw [kPow_ofNat k hk, if_pos hk']
    exact le_top
  by_cases hj : j = 0
  · rw [kPow_ofNat j (by omega), if_neg (by omega), if_pos hj]
    rw [kPow_ofNat k hk, if_neg hk']
    split_ifs
    · exact le_rfl
    · exact_mod_cast (by positivity : (0 : ℝ) ≤ (2 : ℝ) ^ ((k : ℤ) - 127))
  · rw [kPow_normal j (by omega) (by omega), kPow_normal k (by omega) (by omega)]
    have h : (2 : ℝ) ^ ((j : ℤ) - 127) ≤ (2 : ℝ) ^ ((k : ℤ) - 127) :=
      zpow_le_zpow_right₀ (by norm_num : (1 : ℝ) ≤ 2) (by omega)
    exact EReal.coe_le_coe_iff.2 h

/-! ### The block exponent -/

/-- How many powers, from the smallest up, lie at or below `y`. -/
def cnt (y : EReal) : ℕ := by
  classical
  exact Nat.findGreatest (fun j => j = 0 ∨ kPow (BitVec.ofNat 32 j) ≤ y) 255

theorem cnt_le (y : EReal) : cnt y ≤ 255 := Nat.findGreatest_le 255

theorem le_cnt (y : EReal) (j : ℕ) (h1 : 1 ≤ j) (h2 : j ≤ 255) : kPow (BitVec.ofNat 32 j) ≤ y ↔ j ≤ cnt y := by
  classical
  unfold cnt
  constructor
  · intro h
    exact Nat.le_findGreatest h2 (.inr h)
  · intro h
    have hs := Nat.findGreatest_spec (P := fun j => j = 0 ∨ kPow (BitVec.ofNat 32 j) ≤ y) (n := 255) (m := 0)
      (Nat.zero_le _) (.inl rfl)
    rcases hs with h0 | hs
    · omega
    · exact (kPow_mono h (Nat.lt_succ_of_le (Nat.findGreatest_le 255))).trans hs

theorem kStep_eq (y : EReal) (k b : ℕ) (h1 : 1 ≤ b) (h2 : k + b ≤ 255) :
    kStep y (BitVec.ofNat 32 k) (BitVec.ofNat 32 b) = BitVec.ofNat 32 (if k + b ≤ cnt y then k + b else k) := by
  have ha : IntOp.addi (BitVec.ofNat 32 k) (BitVec.ofNat 32 b) = BitVec.ofNat 32 (k + b) := by
    show BitVec.ofNat 32 k + BitVec.ofNat 32 b = _
    rw [← BitVec.ofNat_add]
  unfold kStep
  rw [ha]
  have := le_cnt y (k + b) (by omega) h2
  by_cases h : k + b ≤ cnt y
  · rw [if_neg (not_lt.2 (this.2 h)), if_pos h]
  · rw [if_pos (not_le.1 fun h' => h (this.1 h')), if_neg h]

/-- The search's steps on numbers, for `n` powers. -/
def nStep (n k b : ℕ) : ℕ := if k + b ≤ n then k + b else k

theorem nFind : ∀ n : Fin 256,
    nStep n (nStep n (nStep n (nStep n (nStep n (nStep n (nStep n (nStep n 0 128) 64) 32) 16) 8) 4) 2) 1 = n.val := by
  decide +kernel

theorem nStep_le (n k b m : ℕ) (h : k + b ≤ m) : nStep n k b ≤ m := by
  unfold nStep
  split_ifs <;> omega

theorem kFind_eq (y : EReal) : kFind y = BitVec.ofNat 32 (cnt y) := by
  have hs : ∀ k b : ℕ, 1 ≤ b → k + b ≤ 255 →
      kStep y (BitVec.ofNat 32 k) (BitVec.ofNat 32 b) = BitVec.ofNat 32 (nStep (cnt y) k b) :=
    fun k b => kStep_eq y k b
  have h := nFind ⟨cnt y, Nat.lt_succ_of_le (cnt_le y)⟩
  simp only at h
  have l1 := nStep_le (cnt y) 0 128 128 (by omega)
  have l2 := nStep_le (cnt y) _ 64 192 (by omega : nStep (cnt y) 0 128 + 64 ≤ 192)
  have l3 := nStep_le (cnt y) _ 32 224 (by omega : nStep (cnt y) (nStep (cnt y) 0 128) 64 + 32 ≤ 224)
  have l4 := nStep_le (cnt y) _ 16 240 (by omega : nStep (cnt y) (nStep (cnt y) (nStep (cnt y) 0 128) 64) 32 + 16 ≤ 240)
  have l5 := nStep_le (cnt y) _ 8 248 (Nat.add_le_add_right l4 8)
  have l6 := nStep_le (cnt y) _ 4 252 (Nat.add_le_add_right l5 4)
  have l7 := nStep_le (cnt y) _ 2 254 (Nat.add_le_add_right l6 2)
  unfold kFind kHalf
  rw [hs 0 128 (by omega) (by omega), hs _ 64 (by omega) (by omega), hs _ 32 (by omega) (by omega),
    hs _ 16 (by omega) (by omega), hs _ 8 (by omega) (by omega), hs _ 4 (by omega) (by omega),
    hs _ 2 (by omega) (by omega), hs _ 1 (by omega) (by omega), h]

/-- The reference's step over the power `k - 126`. -/
def rStep (y : EReal) (k : ℕ) (e : BitVec 32) : BitVec 32 :=
  if rPow (BitVec.ofNat 32 k - 126#32) ≤ y then BitVec.ofNat 32 k - 126#32 + 1#32 else e

/-- The reference's exponent after `t` powers. -/
def rUp (y : EReal) : ℕ → BitVec 32
  | 0 => 4294967170#32
  | t + 1 => rStep y t (rUp y t)

theorem word_facts : ∀ k : Fin 252, (BitVec.ofNat 32 k.val - 126#32).toInt = (k.val : ℤ) - 126
    ∧ BitVec.ofNat 32 k.val - 126#32 + 1#32 = BitVec.ofNat 32 (k.val + 1) - 126#32 := by
  decide +kernel

theorem rUp_eq (y : EReal) (t : ℕ) (ht : t ≤ 252) : rUp y t = BitVec.ofNat 32 (min t (cnt y)) - 126#32 := by
  induction t with
  | zero => rw [Nat.zero_min]; rfl
  | succ t ih =>
    obtain ⟨h1, h2⟩ := word_facts ⟨t, by omega⟩
    simp only at h1 h2
    show rStep y t (rUp y t) = _
    unfold rStep
    rw [ih (by omega), h2, rPow_eq, h1]
    have hk := kPow_normal (t + 1) (by omega) (by omega)
    rw [show ((t + 1 : ℕ) : ℤ) - 127 = (t : ℤ) - 126 by push_cast; ring] at hk
    have hc := le_cnt y (t + 1) (by omega) (by omega)
    rw [hk] at hc
    by_cases h : t + 1 ≤ cnt y
    · rw [if_pos (hc.2 h), min_eq_left h]
    · rw [if_neg fun h' => h (hc.1 h'), min_eq_right (by omega), min_eq_right (by omega)]

/-- The reference's block exponent. -/
def rE (a : EReal) : BitVec 32 := if a = 0 then 0#32 else rUp (a * Ideal.ofBits FTy.f32 991054117#32) 252

theorem minsi_facts : ∀ n : Fin 256, IntOp.minsi (BitVec.ofNat 32 n.val) 252#32 = BitVec.ofNat 32 (min 252 n.val) := by
  decide +kernel

theorem kE_eq (a : EReal) : kE a = rE a := by
  unfold kE rE
  split_ifs
  · rfl
  · rw [kFind_eq, rUp_eq _ _ le_rfl]
    have := minsi_facts ⟨cnt (a * Ideal.ofBits FTy.f32 991054117#32), Nat.lt_succ_of_le (cnt_le _)⟩
    simp only at this
    rw [this]
    rfl

theorem rE_range (a : EReal) : ∃ n : Fin 253, rE a = BitVec.ofNat 32 n.val - 126#32 := by
  unfold rE
  split_ifs
  · exact ⟨⟨126, by omega⟩, rfl⟩
  · exact ⟨⟨_, Nat.lt_succ_of_le (min_le_left _ _)⟩, rUp_eq _ _ le_rfl⟩

theorem neg_facts : ∀ n : Fin 253, IntOp.subi 127#32 (BitVec.ofNat 32 n.val - 126#32) = BitVec.ofNat 32 (253 - n.val)
    ∧ (0#32 - (BitVec.ofNat 32 n.val - 126#32)).toInt = 126 - (n.val : ℤ) := by
  decide +kernel

/-- The power the kernel scales a block by is the reference's. -/
theorem kPow_neg (a : EReal) : kPow (IntOp.subi 127#32 (rE a)) = rPow (0#32 - rE a) := by
  obtain ⟨n, hn⟩ := rE_range a
  obtain ⟨h1, h2⟩ := neg_facts n
  have hl := n.isLt
  rw [hn, h1, rPow_eq, h2, kPow_normal _ (by omega) (by omega),
    show ((253 - n.val : ℕ) : ℤ) - 127 = 126 - (n.val : ℤ) by omega]

/-- The reference's code of `w` at the exponent `e`. -/
def rCode (w : EReal) (e : BitVec 32) : EReal :=
  min (Ideal.ofBits FTy.f32 1138753536#32) (max (Ideal.ofBits FTy.f32 3286237184#32) (w * rPow (0#32 - e)))

theorem kCode_eq (w a : EReal) : kCode w (kE a) = rCode w (rE a) := by
  unfold kCode rCode
  rw [kE_eq, kPow_neg]

/-! ### The scale -/

theorem scale_facts : ∀ s : BitVec 8, 1#8 ≤ s → s ≤ 254#8 →
    (BitVec.setWidth 32 s = BitVec.ofNat 32 s.toNat ∧ 1 ≤ s.toNat ∧ s.toNat ≤ 254)
    ∧ (BitVec.setWidth 32 s - 127#32).toInt = (s.toNat : ℤ) - 127 := by
  decide +kernel

/-- A scale byte in range decodes to the same power in both. -/
theorem kPow_scale (s : BitVec 8) (h1 : 1#8 ≤ s) (h2 : s ≤ 254#8) :
    kPow (BitVec.setWidth 32 s) = rPow (BitVec.setWidth 32 s - 127#32) := by
  obtain ⟨⟨e, l, u⟩, f⟩ := scale_facts s h1 h2
  rw [rPow_eq, f, e, kPow_normal _ l u]

/-- Against a selector column holding one 1, the kernel's multiplier is the selected scale. -/
theorem kMul_eq {n : ℕ} (v0 : Vec Ideal S1x256x90 .i8) (sel : (⟨2, ![90, n]⟩ : Shape).Idx → EReal) (r : Fin 256) (ch : Fin n)
    (g : Fin 90) (hsel : ∀ g' : Fin 90, sel (ix2 g' ch) = if g' = g then 1 else 0)
    (h1 : 1#8 ≤ (v0 (ix3 0 r g) : BitVec 8)) (h2 : (v0 (ix3 0 r g) : BitVec 8) ≤ 254#8) :
    kMul v0 sel r ch = rPow (BitVec.setWidth 32 (v0 (ix3 0 r g)) - 127#32) := by
  unfold kMul
  rw [Finset.sum_eq_single g]
  · rw [hsel, if_pos rfl, mul_one, kPow_scale _ h1 h2]
  · intro g' _ hg
    rw [hsel, if_neg hg, mul_zero]
  · intro h
    exact absurd (Finset.mem_univ g) h

/-! ### The derivative of the gelu -/

/-- The tanh in the reference's derivative. -/
def rT (p : EReal) : EReal :=
  Ideal.tanh (Named.named (F := Ideal) ReferenceIdeal.κ "gelu_c" (φ := .f32) 1061962282#32
    * (p + Named.named (F := Ideal) ReferenceIdeal.κ "gelu_k" (φ := .f32) 1027024659#32 * p * p * p))

/-- The reference's derivative of the gelu. -/
def rD (p : EReal) : EReal :=
  Ideal.ofBits FTy.f32 1056964608#32 * (1 + rT p)
    + Ideal.ofBits FTy.f32 1056964608#32 * p * (1 - rT p * rT p)
        * Named.named (F := Ideal) ReferenceIdeal.κ "gelu_c" (φ := .f32) 1061962282#32
        * (1 + Named.named (F := Ideal) ReferenceIdeal.κ "gelu_3k" (φ := .f32) 1040801103#32 * p * p)

theorem named_k_c : Named.named (F := Ideal) κ "gelu_c" (φ := .f32) 1061962282#32
    = ((3989422804014327 / 5000000000000000 : ℝ) : EReal) := rfl
theorem named_k_ck : Named.named (F := Ideal) κ "gelu_ck" (φ := .f32) 1024598649#32
    = ((35677408136300126361 / 1000000000000000000000 : ℝ) : EReal) := rfl
theorem named_k_3ck : Named.named (F := Ideal) κ "gelu_3ck" (φ := .f32) 1037775798#32
    = ((107032224408900379083 / 1000000000000000000000 : ℝ) : EReal) := rfl
theorem named_r_c : Named.named (F := Ideal) ReferenceIdeal.κ "gelu_c" (φ := .f32) 1061962282#32
    = ((3989422804014327 / 5000000000000000 : ℝ) : EReal) := rfl
theorem named_r_k : Named.named (F := Ideal) ReferenceIdeal.κ "gelu_k" (φ := .f32) 1027024659#32
    = ((8943 / 200000 : ℝ) : EReal) := rfl
theorem named_r_3k : Named.named (F := Ideal) ReferenceIdeal.κ "gelu_3k" (φ := .f32) 1040801103#32
    = ((26829 / 200000 : ℝ) : EReal) := rfl

theorem half_eq : Ideal.ofBits FTy.f32 1056964608#32 = ((1 / 2 : ℝ) : EReal) := by
  simp [Ideal.ofBits, Ideal.ieee, -EReal.coe_mul]; norm_num

theorem kT_eq (p : EReal) : kT p = rT p := by
  unfold kT rT
  rw [named_k_c, named_k_ck, named_r_c, named_r_k]
  congr 1
  induction p with
  | bot =>
    rw [EReal.bot_mul_bot, EReal.coe_mul_top_of_pos (by norm_num), EReal.coe_add_top, EReal.bot_mul_top,
      EReal.coe_mul_bot_of_pos (by norm_num), EReal.bot_mul_bot, EReal.top_mul_bot, EReal.bot_add,
      EReal.coe_mul_bot_of_pos (by norm_num)]
  | top =>
    rw [EReal.top_mul_top, EReal.coe_mul_top_of_pos (by norm_num), EReal.coe_add_top, EReal.top_mul_top,
      EReal.coe_mul_top_of_pos (by norm_num), EReal.top_mul_top, EReal.top_mul_top, EReal.top_add_top,
      EReal.coe_mul_top_of_pos (by norm_num)]
  | coe p =>
    norm_cast
    ring

theorem kD_eq (p : EReal) : kD p = rD p := by
  have ht : kT p = rT p := kT_eq p
  unfold kD rD
  rw [ht, named_k_c, named_k_3ck, named_r_c, named_r_3k, half_eq]
  induction p with
  | bot =>
    have h : rT ⊥ = -1 := by
      rw [← kT_eq]
      unfold kT
      rw [named_k_c, named_k_ck, EReal.bot_mul_bot, EReal.coe_mul_top_of_pos (by norm_num), EReal.coe_add_top,
        EReal.bot_mul_top]
      rfl
    rw [h]
    have h0 : (1 : EReal) + -1 = 0 := by
      rw [show (1 : EReal) = ((1 : ℝ) : EReal) from rfl, ← EReal.coe_neg, ← EReal.coe_add, add_neg_cancel, EReal.coe_zero]
    have h1 : (1 : EReal) - -1 * -1 = 0 := by
      rw [show (1 : EReal) = ((1 : ℝ) : EReal) from rfl, ← EReal.coe_neg, ← EReal.coe_mul, ← EReal.coe_sub]
      norm_num
    rw [h0, h1, mul_zero, zero_mul, mul_zero, zero_mul, zero_mul, add_zero]
  | top =>
    have h : rT ⊤ = 1 := by
      rw [← kT_eq]
      unfold kT
      rw [named_k_c, named_k_ck, EReal.top_mul_top, EReal.coe_mul_top_of_pos (by norm_num), EReal.coe_add_top,
        EReal.top_mul_top]
      rfl
    rw [h]
    have h0 : (1 : EReal) - 1 = 0 := by
      rw [show (1 : EReal) = ((1 : ℝ) : EReal) from rfl, ← EReal.coe_sub, sub_self, EReal.coe_zero]
    have h1 : (1 : EReal) - 1 * 1 = 0 := by rw [mul_one, h0]
    rw [h0, h1, mul_zero, zero_mul, zero_mul, zero_mul, add_zero, add_zero, mul_one]
  | coe p =>
    obtain ⟨t, h⟩ : ∃ t : ℝ, rT (p : EReal) = t := by
      rw [← kT_eq]
      unfold kT
      rw [named_k_c, named_k_ck]
      refine ⟨Real.tanh (p * (3989422804014327 / 5000000000000000 + 35677408136300126361 / 1000000000000000000000 * (p * p))), ?_⟩
      norm_cast
    rw [h]
    norm_cast
    ring

end Cert.KernelIdeal.Gen

end
-- ==== Proof.RefSpec.lean ====
/- The reference's payloads read at an index: its codes and scales as the element formulas. -/
module

public import proofs.«01_k».proof.Proof.Scalar
public import proofs.«01_k».proof.Proof.Gen.ReferenceIdeal.Value
public import Idealize.ShloMosaic.Lib.Pointwise

@[expose] public section

set_option maxRecDepth 16384

noncomputable section

namespace Cert.ReferenceIdeal.Gen

open Idealize.ShloMosaic Idealize.SL.Sem
open Cert.KernelIdeal.Gen (rPow rStep rUp rE rCode rT rD kMax)

section
variable (X : Vec Ideal S8x4096x2880 .fp8e4m3) (S : Vec Ideal S8x4096x90 .i8) (P : Vec Ideal S8x4096x2880 .bf16)

/-- The product at batch `i`, row `r`, channel `ch`. -/
def rW (i : Fin 8) (r : Fin 4096) (ch : Fin 2880) : EReal :=
  X (ix3 i r ch) * rPow (BitVec.setWidth 32 (S (ix3 i r ⟨ch / 32, by omega⟩)) - 127#32) * rD (P (ix3 i r ch))

/-- The exponent of the block of 32 rows `b`. -/
def rBE (i : Fin 8) (b : Fin 128) (ch : Fin 2880) : BitVec 32 :=
  rE (kMax fun l : Fin 32 => rW X S P i ⟨b * 32 + l, by omega⟩ ch)

/-- The codes, channels by rows. -/
def codes : Vec Ideal S8x2880x4096 .fp8e4m3 := fun y =>
  rCode (rW X S P (y 0) (y 2) (y 1)) (rBE X S P (y 0) ⟨(y 2).val / 32, by have := (y 2).isLt; simp at this; omega⟩ (y 1))

/-- The scales, channels by blocks. -/
def scales : Vec Ideal S8x2880x128 .i8 := fun y =>
  BitVec.setWidth 8 (rBE X S P (y 0) (y 2) (y 1) + 127#32)

theorem pay8_apply (i : Fin 8) (r : Fin 4096) (ch : Fin 2880) :
    k0_pay8 X S (ix3 i r ch) = X (ix3 i r ch) * rPow (BitVec.setWidth 32 (S (ix3 i r ⟨ch / 32, by omega⟩)) - 127#32) := by
  pointwise [k0_pay8]
  rfl

theorem pay1112_apply (i : Fin 8) (r : Fin 4096) (ch : Fin 2880) :
    k0_pay11 P (ix3 i r ch) + k0_pay12 P (ix3 i r ch) = rD (P (ix3 i r ch)) := by
  pointwise [k0_pay11, k0_pay12, k0_pay10, k0_pay9]
  rfl

end

section
variable (v13 v26 v40 : FVec Ideal S8x4096x2880 .f32)

theorem pay1_apply (i : Fin 8) (ch : Fin 2880) (b : Fin 128) (l : Fin 32) :
    k0_pay1 v13 v26 v40 (ix4 i ch b l)
      = v13 (ix3 i ⟨b * 32 + l, by omega⟩ ch) * (v26 (ix3 i ⟨b * 32 + l, by omega⟩ ch) + v40 (ix3 i ⟨b * 32 + l, by omega⟩ ch)) := by
  pointwise [k0_pay1]

theorem pay2_apply (i : Fin 8) (ch : Fin 2880) (b : Fin 128) :
    k0_pay2 v13 v26 v40 (ix3 i ch b) = kMax fun l => k0_pay1 v13 v26 v40 (ix4 i ch b l) := by
  pointwise [k0_pay2]
  rfl

end

end Cert.ReferenceIdeal.Gen

end
-- ==== Proof.KernelValue.lean ====
/- The kernel's run, its results read: under the precondition the two result arrays are the reference's element formulas
   of the kernel's arguments. -/
module

public import proofs.«01_k».proof.Proof.KernelRun
public import proofs.«01_k».proof.Proof.Selector
public import proofs.«01_k».proof.Proof.RefSpec
public import Idealize.ShloMosaic.Lib.Pipeline.Value

@[expose] public section

set_option maxRecDepth 16384

noncomputable section

namespace Cert.KernelIdeal.Gen

open Idealize.ShloMosaic Idealize.ShloMosaic.TcCoe Idealize.SL.Sem
open Idealize.ShloMosaic.Pipeline (Dat)
open Cert.ReferenceIdeal.Gen (rW rBE codes scales)

variable (m : (ℓ : Loc nD τ sig) → Buf (Elt Ideal) ℓ) (ρ : Dev nD → PrngReg)

/-! ## The input blocks, entry by entry -/

/-- The batch entry a point works on. -/
def img (t : Fin cfg0.N) : Fin 8 := ⟨t.val / 16, by have := lt_of_lt_of_eq t.isLt (show cfg0.N = 128 from N_0); omega⟩

/-- The row of the whole array that row `r` of a point is. -/
def row (t : Fin cfg0.N) (r : Fin 256) : Fin 4096 := ⟨256 * (t.val % 16) + r.val, by omega⟩

/-- The three arguments at a device. -/
abbrev aX (c : Dev nD) : Vec Ideal S8x4096x2880 .fp8e4m3 := m ((c : Thread nD τ).loc main_arg0)
abbrev aS (c : Dev nD) : Vec Ideal S8x4096x90 .i8 := m ((c : Thread nD τ).loc main_arg1)
abbrev aP (c : Dev nD) : Vec Ideal S8x4096x2880 .bf16 := m ((c : Thread nD τ).loc main_arg2)

theorem idx0 : ∀ t : Fin grid0.N, win0_0.index t 0 = t.val / 16 ∧ win0_0.index t 1 = t.val % 16 ∧ win0_0.index t 2 = 0 := by decide +kernel
theorem idx1 : ∀ t : Fin grid0.N, win0_1.index t 0 = t.val / 16 ∧ win0_1.index t 1 = t.val % 16 ∧ win0_1.index t 2 = 0 := by decide +kernel
theorem idx2 : ∀ t : Fin grid0.N, win0_2.index t 0 = t.val / 16 ∧ win0_2.index t 1 = t.val % 16 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = t.val / 16 ∧ win0_4.index t 1 = 0 ∧ win0_4.index t 2 = t.val % 16 := by decide +kernel
theorem idx5 : ∀ t : Fin grid0.N, win0_5.index t 0 = t.val / 16 ∧ win0_5.index t 1 = 0 ∧ win0_5.index t 2 = 0 := by decide +kernel

theorem in0_at (c : Dev nD) (t : Fin cfg0.N) (r : Fin 256) (ch : Fin 2880) :
    in0 m c t (ix3 0 r ch) = aX m c (ix3 (img t) (row t r) ch) := by
  obtain ⟨h0, h1, h2⟩ := idx0 t
  unfold in0 iblk aX
  rw [View.read_apply]
  refine (congrFun (V_main_arg0 m c) _).trans ?_
  congr 1
  funext a
  apply Fin.ext
  match a with
  | ⟨0, _⟩ => show win0_0.index t 0 * 1 + 1 * 0 = t.val / 16; rw [h0]; omega
  | ⟨1, _⟩ => show win0_0.index t 1 * 256 + 1 * r.val = 256 * (t.val % 16) + r.val; rw [h1]; omega
  | ⟨2, _⟩ => show win0_0.index t 2 * 2880 + 1 * ch.val = ch.val; rw [h2]; omega

theorem in1_at (c : Dev nD) (t : Fin cfg0.N) (r : Fin 256) (g : Fin 90) :
    in1 m c t (ix3 0 r g) = aS m c (ix3 (img t) (row t r) g) := by
  obtain ⟨h0, h1, h2⟩ := idx1 t
  unfold in1 iblk aS
  rw [View.read_apply]
  refine (congrFun (V_main_arg1 m c) _).trans ?_
  congr 1
  funext a
  apply Fin.ext
  match a with
  | ⟨0, _⟩ => show win0_1.index t 0 * 1 + 1 * 0 = t.val / 16; rw [h0]; omega
  | ⟨1, _⟩ => show win0_1.index t 1 * 256 + 1 * r.val = 256 * (t.val % 16) + r.val; rw [h1]; omega
  | ⟨2, _⟩ => show win0_1.index t 2 * 90 + 1 * g.val = g.val; rw [h2]; omega

theorem in2_at (c : Dev nD) (t : Fin cfg0.N) (r : Fin 256) (ch : Fin 2880) :
    in2 m c t (ix3 0 r ch) = aP m c (ix3 (img t) (row t r) ch) := by
  obtain ⟨h0, h1, h2⟩ := idx2 t
  unfold in2 iblk aP
  rw [View.read_apply]
  refine (congrFun (V_main_arg2 m c) _).trans ?_
  congr 1
  funext a
  apply Fin.ext
  match a with
  | ⟨0, _⟩ => show win0_2.index t 0 * 1 + 1 * 0 = t.val / 16; rw [h0]; omega
  | ⟨1, _⟩ => show win0_2.index t 1 * 256 + 1 * r.val = 256 * (t.val % 16) + r.val; rw [h1]; omega
  | ⟨2, _⟩ => show win0_2.index t 2 * 2880 + 1 * ch.val = ch.val; rw [h2]; omega

theorem in3_at (c : Dev nD) (t : Fin cfg0.N) (g : Fin 90) (ch : Fin 2880) :
    in3 m c t (ix2 g ch) = if g.val = ch.val / 32 then (1 : EReal) else 0 := by
  obtain ⟨h0, h1⟩ := idx3 t
  rw [← sel_eq m c g ch]
  unfold in3 iblk
  rw [View.read_apply]
  show V m c main_v8 _ = _
  congr 1
  funext a
  apply Fin.ext
  match a with
  | ⟨0, _⟩ => show win0_3.index t 0 * 90 + 1 * g.val = g.val; rw [h0]; omega
  | ⟨1, _⟩ => show win0_3.index t 1 * 2880 + 1 * ch.val = ch.val; rw [h1]; omega

/-! ## The block values -/

/-- Every scale byte of the argument at a device lies between 1 and 254. -/
def InRange (c : Dev nD) : Prop := ∀ i, 1#8 ≤ (aS m c i : BitVec 8) ∧ (aS m c i : BitVec 8) ≤ 254#8

variable {m}

/-- The kernel's product is the reference's. -/
theorem wB_eq {c : Dev nD} (hr : InRange m c) (t : Fin cfg0.N) (r : Fin 256) (ch : Fin 2880) :
    wB (in0 m c t) (in1 m c t) (in2 m c t) (in3 m c t) r ch = rW (aX m c) (aS m c) (aP m c) (img t) (row t r) ch := by
  have hg : ch.val / 32 < 90 := by omega
  have e1 := in1_at m c t r ⟨ch.val / 32, hg⟩
  unfold wB rW
  rw [kMul_eq (in1 m c t) (in3 m c t) r ch ⟨ch.val / 32, hg⟩ (fun g' => (in3_at m c t g' ch).trans (by simp only [Fin.ext_iff]))
    (by rw [e1]; exact (hr _).1) (by rw [e1]; exact (hr _).2), e1, in0_at, in2_at, kD_eq]

/-- The block of the whole array that block `a` of a point is. -/
def blkOf (t : Fin cfg0.N) (a : Fin 8) : Fin 128 := ⟨8 * (t.val % 16) + a.val, by omega⟩

/-- The kernel's block exponent is the reference's. -/
theorem eB_eq {c : Dev nD} (hr : InRange m c) (t : Fin cfg0.N) (a : Fin 8) (ch : Fin 2880) :
    eB (in0 m c t) (in1 m c t) (in2 m c t) (in3 m c t) a ch = rBE (aX m c) (aS m c) (aP m c) (img t) (blkOf t a) ch := by
  unfold eB rBE
  rw [kE_eq]
  congr 2
  funext l
  rw [wB_eq hr]
  congr 1
  apply Fin.ext
  show 256 * (t.val % 16) + (a.val * 32 + l.val) = (8 * (t.val % 16) + a.val) * 32 + l.val
  omega

/-- The kernel's codes at a point are the reference's. -/
theorem blk6_eq {c : Dev nD} (hr : InRange m c) (t : Fin cfg0.N) (ch : Fin 2880) (r : Fin 256) :
    blk6 (in0 m c t) (in1 m c t) (in2 m c t) (in3 m c t) (ix3 0 ch r)
      = codes (aX m c) (aS m c) (aP m c) (ix3 (img t) ch (row t r)) := by
  show kCode (wB (in0 m c t) (in1 m c t) (in2 m c t) (in3 m c t) r ch) (eB (in0 m c t) (in1 m c t) (in2 m c t) (in3 m c t) ⟨r / 32, by omega⟩ ch)
    = rCode (rW (aX m c) (aS m c) (aP m c) (img t) (row t r) ch) (rBE (aX m c) (aS m c) (aP m c) (img t) ⟨(row t r).val / 32, by have := (row t r).isLt; omega⟩ ch)
  rw [wB_eq hr, ← show blkOf t ⟨r / 32, by omega⟩ = ⟨(row t r).val / 32, by have := (row t r).isLt; omega⟩ from
    Fin.ext (by show 8 * (t.val % 16) + r.val / 32 = (256 * (t.val % 16) + r.val) / 32; omega), ← eB_eq hr]
  unfold eB
  rw [kCode_eq, kE_eq]

/-- The kernel's scale bytes of an image are the reference's. -/
theorem scaleBlk_eq {c : Dev nD} (hr : InRange m c) (t : Fin cfg0.N) (ch : Fin 2880) (b : Fin 128) :
    scaleBlk m c t.val (ix3 0 ch b) = scales (aX m c) (aS m c) (aP m c) (ix3 (img t) ch b) := by
  have ht : t.val < 128 := lt_of_lt_of_eq t.isLt (show cfg0.N = 128 from N_0)
  have hq : (t.val / 16 * 16 + b.val / 8) % 128 = t.val / 16 * 16 + b.val / 8 := Nat.mod_eq_of_lt (by omega)
  show BitVec.setWidth 8 (IntOp.addi (eB _ _ _ _ ⟨b.val % 8, Nat.mod_lt _ (by decide)⟩ ch) 127#32)
    = BitVec.setWidth 8 (rBE (aX m c) (aS m c) (aP m c) (img t) b ch + 127#32)
  rw [eB_eq hr]
  have e1 : img (ptOf (t.val / 16 * 16 + b.val / 8)) = img t := Fin.ext (by
    show (t.val / 16 * 16 + b.val / 8) % 128 / 16 = t.val / 16; omega)
  have e2 : blkOf (ptOf (t.val / 16 * 16 + b.val / 8)) ⟨b.val % 8, Nat.mod_lt _ (by decide)⟩ = b := Fin.ext (by
    show 8 * ((t.val / 16 * 16 + b.val / 8) % 128 % 16) + b.val % 8 = b.val; omega)
  show BitVec.setWidth 8 (rBE (aX m c) (aS m c) (aP m c) (img (ptOf (t.val / 16 * 16 + b.val / 8)))
    (blkOf (ptOf (t.val / 16 * 16 + b.val / 8)) ⟨b.val % 8, Nat.mod_lt _ (by decide)⟩) ch + 127#32) = _
  rw [e1, e2]

/-! ## The result arrays -/

variable (m)

/-- The codes of the launched arguments. -/
abbrev codesOf (c : Dev nD) : Buf (Elt Ideal) ((c : Thread nD τ).loc main_v9_0) := codes (aX m c) (aS m c) (aP m c)

/-- The scales of the launched arguments. -/
abbrev scalesOf (c : Dev nD) : Buf (Elt Ideal) ((c : Thread nD τ).loc main_v9_1) := scales (aX m c) (aS m c) (aP m c)

variable {m}

theorem flushed4_eq {c : Dev nD} (hr : InRange m c) (t : Fin cfg0.N) (hf : (cfg0.win 4).flush t = true) :
    (dats m 0 c).flushed 4 t = ((cfg0.win 4).blk t).view.read (Elt Ideal) (codesOf m c) := by
  obtain ⟨h0, h1, h2⟩ := idx4 t
  show (cfg0.win 4).cut (grid0.coords t) ((dats m 0 c).after 4 t) = _
  rw [after0_4]
  funext (y : S1x2880x256.Idx)
  rw [View.read_apply]
  have hy0 : (y 0).val = 0 := by have : (y 0).val < 1 := (y 0).isLt; omega
  have hy : y = ix3 0 (y 1) (y 2) := (ix3_eta y).symm.trans (by congr 1; exact Fin.ext hy0)
  refine ((congrArg (blk6 (in0 m c t) (in1 m c t) (in2 m c t) (in3 m c t)) hy).trans (blk6_eq hr t (y 1) (y 2))).trans ?_
  show codes (aX m c) (aS m c) (aP m c) _ = codes (aX m c) (aS m c) (aP m c) _
  congr 1
  funext a
  apply Fin.ext
  match a with
  | ⟨0, _⟩ => show t.val / 16 = win0_4.index t 0 * 1 + 1 * (y 0).val; rw [h0, hy0]; omega
  | ⟨1, _⟩ => show (y 1).val = win0_4.index t 1 * 2880 + 1 * (y 1).val; rw [h1]; omega
  | ⟨2, _⟩ => show 256 * (t.val % 16) + (y 2).val = win0_4.index t 2 * 256 + 1 * (y 2).val; rw [h2]; omega

theorem flushed5_eq {c : Dev nD} (hr : InRange m c) (t : Fin cfg0.N) (hf : (cfg0.win 5).flush t = true) :
    (dats m 0 c).flushed 5 t = ((cfg0.win 5).blk t).view.read (Elt Ideal) (scalesOf m c) := by
  obtain ⟨h0, h1, h2⟩ := idx5 t
  show (cfg0.win 5).cut (grid0.coords t) ((dats m 0 c).after 5 t) = _
  rw [after0_5]
  funext (y : S1x2880x128.Idx)
  rw [View.read_apply]
  have hy0 : (y 0).val = 0 := by have : (y 0).val < 1 := (y 0).isLt; omega
  have hy : y = ix3 0 (y 1) (y 2) := (ix3_eta y).symm.trans (by congr 1; exact Fin.ext hy0)
  refine ((congrArg (scaleBlk m c t.val) hy).trans (scaleBlk_eq hr t (y 1) (y 2))).trans ?_
  show scales (aX m c) (aS m c) (aP m c) _ = scales (aX m c) (aS m c) (aP m c) _
  congr 1
  funext a
  apply Fin.ext
  match a with
  | ⟨0, _⟩ => show t.val / 16 = win0_5.index t 0 * 1 + 1 * (y 0).val; rw [h0, hy0]; omega
  | ⟨1, _⟩ => show (y 1).val = win0_5.index t 1 * 2880 + 1 * (y 1).val; rw [h1]; omega
  | ⟨2, _⟩ => show (y 2).val = win0_5.index t 2 * 128 + 1 * (y 2).val; rw [h2]; omega

theorem size4 : ∀ t : Fin grid0.N, win0_4.xsize (grid0.coords t) 0 = 1 ∧ win0_4.xsize (grid0.coords t) 1 = 2880 ∧ win0_4.xsize (grid0.coords t) 2 = 256 := by decide +kernel
theorem size5 : ∀ t : Fin grid0.N, win0_5.xsize (grid0.coords t) 0 = 1 ∧ win0_5.xsize (grid0.coords t) 1 = 2880 ∧ win0_5.xsize (grid0.coords t) 2 = 128 := by decide +kernel

theorem final4 {c : Dev nD} (hr : InRange m c) : (dats m 0 c).arrAt 4 cfg0.N = codesOf m c :=
  (dats m 0 c).arrAt_eq_of_cover 4 (codesOf m c) (flushed4_eq hr) fun (i : S8x2880x4096.Idx) => by
    have b0 : (i 0).val < 8 := (i 0).isLt
    have b1 : (i 1).val < 2880 := (i 1).isLt
    have b2 : (i 2).val < 4096 := (i 2).isLt
    obtain ⟨t, ht⟩ : ∃ t : Fin cfg0.N, t.val = 16 * (i 0).val + (i 2).val / 256 :=
      ⟨⟨16 * (i 0).val + (i 2).val / 256, by rw [show cfg0.N = 128 from N_0]; omega⟩, rfl⟩
    obtain ⟨h0, h1, h2⟩ := idx4 t
    obtain ⟨s0, s1, s2⟩ := size4 t
    refine ⟨t, flush0_4 t, ?_⟩
    show i ∈ ((View.whole main_v9_0).slice (win0_4.rect t)).set
    rw [View.set_slice_whole, Rect.mem_set_unit]
    intro a
    match a with
    | ⟨0, _⟩ =>
      show win0_4.index t 0 * 1 ≤ (i 0).val ∧ (i 0).val < win0_4.index t 0 * 1 + win0_4.xsize (grid0.coords t) 0
      rw [h0, s0]; omega
    | ⟨1, _⟩ =>
      show win0_4.index t 1 * 2880 ≤ (i 1).val ∧ (i 1).val < win0_4.index t 1 * 2880 + win0_4.xsize (grid0.coords t) 1
      rw [h1, s1]; omega
    | ⟨2, _⟩ =>
      show win0_4.index t 2 * 256 ≤ (i 2).val ∧ (i 2).val < win0_4.index t 2 * 256 + win0_4.xsize (grid0.coords t) 2
      rw [h2, s2]; omega

theorem final5 {c : Dev nD} (hr : InRange m c) : (dats m 0 c).arrAt 5 cfg0.N = scalesOf m c :=
  (dats m 0 c).arrAt_eq_of_cover 5 (scalesOf m c) (flushed5_eq hr) fun (i : S8x2880x128.Idx) => by
    have b0 : (i 0).val < 8 := (i 0).isLt
    have b1 : (i 1).val < 2880 := (i 1).isLt
    have b2 : (i 2).val < 128 := (i 2).isLt
    obtain ⟨t, ht⟩ : ∃ t : Fin cfg0.N, t.val = 16 * (i 0).val + 15 :=
      ⟨⟨16 * (i 0).val + 15, by rw [show cfg0.N = 128 from N_0]; omega⟩, rfl⟩
    obtain ⟨h0, h1, h2⟩ := idx5 t
    obtain ⟨s0, s1, s2⟩ := size5 t
    refine ⟨t, (flush0_5 t).mpr (by omega), ?_⟩
    show i ∈ ((View.whole main_v9_1).slice (win0_5.rect t)).set
    rw [View.set_slice_whole, Rect.mem_set_unit]
    intro a
    match a with
    | ⟨0, _⟩ =>
      show win0_5.index t 0 * 1 ≤ (i 0).val ∧ (i 0).val < win0_5.index t 0 * 1 + win0_5.xsize (grid0.coords t) 0
      rw [h0, s0]; omega
    | ⟨1, _⟩ =>
      show win0_5.index t 1 * 2880 ≤ (i 1).val ∧ (i 1).val < win0_5.index t 1 * 2880 + win0_5.xsize (grid0.coords t) 1
      rw [h1, s1]; omega
    | ⟨2, _⟩ =>
      show win0_5.index t 2 * 128 ≤ (i 2).val ∧ (i 2).val < win0_5.index t 2 * 128 + win0_5.xsize (grid0.coords t) 2
      rw [h2, s2]; omega

/-- The kernel's run, its results read. -/
theorem run_value (hr : ∀ c, InRange m c) : θ_run defs (onTc (τ := τ) (main (F := Ideal))) ⟨m, fun _ => 0, ρ⟩ fun r => ∀ c : Dev nD,
      r.2.mem ((c : Thread nD τ).loc main_v9_0) = codesOf m c
      ∧ r.2.mem ((c : Thread nD τ).loc main_v9_1) = scalesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 4).trans (final4 (hr c)), ((h.1 c).1 5).trans (final5 (hr c)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_main_quiescent m ρ)

end Cert.KernelIdeal.Gen

end
-- ==== Proof.RefPay.lean ====
/- The reference's exponent loop and its results, at an index. -/
module

public import proofs.«01_k».proof.Proof.RefSpec
public import proofs.«01_k».proof.Proof.Gen.ReferenceIdeal.Value
public import Idealize.ShloMosaic.Lib.Pointwise

@[expose] public section

set_option maxRecDepth 16384

noncomputable section

namespace Cert.ReferenceIdeal.Gen

open Idealize.ShloMosaic Idealize.SL.Sem
open Cert.KernelIdeal.Gen (rPow rStep rUp rE rCode rT rD kMax)

section
variable (v13 v26 v40 : FVec Ideal S8x4096x2880 .f32)

/-- One trip, at an element, over any block magnitudes. -/
theorem step_apply (a : FVec Ideal S8x2880x128 .f32) (k : BitVec 32) (acc : IVec S8x2880x128 32) (y : S8x2880x128.Idx) :
    select (cmpf .oge (mulf a (broadcast S8x2880x128 (Scalar.ofBits (F := Ideal) .f32 0x3B124925#32)))
        (broadcast S8x2880x128 (Scalar.exp2 (F := Ideal) (Scalar.sitofp .f32 (Scalar.subi k 126#32)))))
      (broadcast S8x2880x128 (Scalar.addi (Scalar.subi k 126#32) 1#32)) acc y
      = if rPow (k - 126#32) ≤ a y * Ideal.ofBits FTy.f32 991054117#32 then k - 126#32 + 1#32 else acc y := by
  show (if BitVec.ofBool (decide (rPow (k - 126#32) ≤ a y * Ideal.ofBits FTy.f32 991054117#32)) = 1#1 then k - 126#32 + 1#32 else acc y) = _
  by_cases h : rPow (k - 126#32) ≤ a y * Ideal.ofBits FTy.f32 991054117#32
  · rw [if_pos h, decide_eq_true h]; rfl
  · rw [if_neg h, decide_eq_false h]; rfl

theorem pay4_eq (k : Fin k0_t1_loop.trips) (acc : IVec S8x2880x128 32) :
    k0_pay4 v13 v26 v40 k acc
      = select (cmpf .oge (mulf (k0_pay2 v13 v26 v40) (broadcast S8x2880x128 (Scalar.ofBits (F := Ideal) .f32 0x3B124925#32)))
        (broadcast S8x2880x128 (Scalar.exp2 (F := Ideal) (Scalar.sitofp .f32 (Scalar.subi (Scf.iv 0#32 1#32 k.val) 126#32)))))
      (broadcast S8x2880x128 (Scalar.addi (Scalar.subi (Scf.iv 0#32 1#32 k.val) 126#32) 1#32)) acc := by
  unfold k0_pay4
  rfl

theorem pay4_apply (k : Fin k0_t1_loop.trips) (acc : IVec S8x2880x128 32) (i : Fin 8) (ch : Fin 2880) (b : Fin 128) :
    k0_pay4 v13 v26 v40 k acc (ix3 i ch b)
      = rStep (k0_pay2 v13 v26 v40 (ix3 i ch b) * Ideal.ofBits FTy.f32 991054117#32) k.val (acc (ix3 i ch b)) := by
  have hiv : Scf.iv 0#32 1#32 k.val = BitVec.ofNat 32 k.val := by
    unfold Scf.iv
    rw [BitVec.mul_one, BitVec.zero_add]
  rw [pay4_eq, hiv]
  generalize k0_pay2 v13 v26 v40 = a
  rw [step_apply, rStep]

theorem zero_apply (a : FVec Ideal S8x2880x128 .f32) (e : IVec S8x2880x128 32) (y : S8x2880x128.Idx) :
    select (cmpf .oeq a (broadcast S8x2880x128 (Scalar.ofBits (F := Ideal) .f32 0x00000000#32))) (broadcast S8x2880x128 0#32) e y
      = if a y = 0 then 0#32 else e y := by
  show (if BitVec.ofBool (decide (a y = Ideal.ofBits .f32 0#32)) = 1#1 then 0#32 else e y) = _
  rw [Ideal.ofBits_zero_f32]
  by_cases h : a y = 0
  · rw [if_pos h, decide_eq_true h]; rfl
  · rw [if_neg h, decide_eq_false h]; rfl

theorem pay5_eq (v51 : IVec S8x2880x128 32) :
    k0_pay5 v13 v26 v40 v51
      = select (cmpf .oeq (k0_pay2 v13 v26 v40) (broadcast S8x2880x128 (Scalar.ofBits (F := Ideal) .f32 0x00000000#32)))
          (broadcast S8x2880x128 0#32) v51 := by
  unfold k0_pay5
  rfl

theorem pay5_apply (v51 : IVec S8x2880x128 32) (i : Fin 8) (ch : Fin 2880) (b : Fin 128) :
    k0_pay5 v13 v26 v40 v51 (ix3 i ch b) = if k0_pay2 v13 v26 v40 (ix3 i ch b) = 0 then 0#32 else v51 (ix3 i ch b) := by
  rw [pay5_eq]
  generalize k0_pay2 v13 v26 v40 = a
  exact zero_apply a v51 _

theorem pay6_apply (v51 : IVec S8x2880x128 32) (i : Fin 8) (ch : Fin 2880) (b : Fin 128) :
    k0_pay6 v13 v26 v40 v51 (ix3 i ch b) = BitVec.setWidth 8 (k0_pay5 v13 v26 v40 v51 (ix3 i ch b) + 127#32) := by
  generalize hm : k0_pay5 v13 v26 v40 v51 = e
  unfold k0_pay6
  rw [hm]
  rfl

theorem pay7_apply (v51 : IVec S8x2880x128 32) (i : Fin 8) (ch : Fin 2880) (s : Fin 4096) :
    k0_pay7 v13 v26 v40 v51 (ix3 i ch s)
      = rCode (k0_pay1 v13 v26 v40 (ix4 i ch ⟨s / 32, by omega⟩ ⟨s % 32, by omega⟩))
          (k0_pay5 v13 v26 v40 v51 (ix3 i ch ⟨s / 32, by omega⟩)) := by
  generalize hm : k0_pay5 v13 v26 v40 v51 = e
  generalize hw : k0_pay1 v13 v26 v40 = w
  unfold k0_pay7
  rw [hm, hw]
  pointwise
  rfl

end

theorem trips_252 : k0_t1_loop.trips = 252 := by decide +kernel

/-- The fold over the powers, at one element, is the reference's exponent. -/
theorem foldl_at {ι : Type} (y : EReal) (ix : ι) (n : ℕ) (g : Fin n → (ι → BitVec 32) → ι → BitVec 32) (init : ι → BitVec 32)
    (hg : ∀ k acc, g k acc ix = rStep y k.val (acc ix)) (h0 : init ix = 4294967170#32) :
    (List.finRange n).foldl (fun acc k => g k acc) init ix = rUp y n := by
  have h1 : ∀ (L : List (Fin n)) (init : ι → BitVec 32),
      L.foldl (fun acc k => g k acc) init ix = (L.map Fin.val).foldl (fun e k => rStep y k e) (init ix) := fun L => by
    induction L with
    | nil => intro _; rfl
    | cons k L ih =>
      intro init
      show L.foldl (fun acc k => g k acc) (g k init) ix = (L.map Fin.val).foldl (fun e k => rStep y k e) (rStep y k.val (init ix))
      rw [ih, hg]
  have h2 : ∀ n : ℕ, (List.range n).foldl (fun e k => rStep y k e) 4294967170#32 = rUp y n := fun n => by
    induction n with
    | zero => rfl
    | succ n ih => rw [List.range_succ, List.foldl_append, ih]; rfl
  rw [h1, h0, List.map_coe_finRange_eq_range, h2]

theorem fold_apply (v13 v26 v40 : FVec Ideal S8x4096x2880 .f32) (i : Fin 8) (ch : Fin 2880) (b : Fin 128) :
    Scf.fold (k0_pay4 v13 v26 v40) k0_pay3 (ix3 i ch b)
      = rUp (k0_pay2 v13 v26 v40 (ix3 i ch b) * Ideal.ofBits FTy.f32 991054117#32) 252 := by
  rw [Scf.fold_eq, foldl_at _ _ _ _ _ (fun k acc => pay4_apply v13 v26 v40 k acc i ch b) (by pointwise [k0_pay3]), trips_252]

section
variable (X : Vec Ideal S8x4096x2880 .fp8e4m3) (S : Vec Ideal S8x4096x90 .i8) (P : Vec Ideal S8x4096x2880 .bf16)

theorem w_apply (i : Fin 8) (ch : Fin 2880) (b : Fin 128) (l : Fin 32) :
    k0_pay1 (k0_pay8 X S) (k0_pay11 P) (k0_pay12 P) (ix4 i ch b l) = rW X S P i ⟨b * 32 + l, by omega⟩ ch := by
  rw [pay1_apply, pay8_apply, pay1112_apply]
  rfl

theorem e_apply (i : Fin 8) (ch : Fin 2880) (b : Fin 128) :
    k0_pay5 (k0_pay8 X S) (k0_pay11 P) (k0_pay12 P) (Scf.fold (k0_pay4 (k0_pay8 X S) (k0_pay11 P) (k0_pay12 P)) k0_pay3) (ix3 i ch b)
      = rBE X S P i b ch := by
  have h : k0_pay2 (k0_pay8 X S) (k0_pay11 P) (k0_pay12 P) (ix3 i ch b) = kMax fun l : Fin 32 => rW X S P i ⟨b * 32 + l, by omega⟩ ch := by
    rw [pay2_apply]
    congr 1
    funext l
    exact w_apply X S P i ch b l
  rw [pay5_apply, fold_apply, h]
  rfl

theorem codes_eq :
    k0_pay7 (k0_pay8 X S) (k0_pay11 P) (k0_pay12 P) (Scf.fold (k0_pay4 (k0_pay8 X S) (k0_pay11 P) (k0_pay12 P)) k0_pay3) = codes X S P := by
  funext y
  obtain ⟨i, ch, s, rfl⟩ : ∃ i ch s, y = ix3 i ch s := ⟨y 0, y 1, y 2, (ix3_eta y).symm⟩
  rw [pay7_apply, e_apply, w_apply]
  unfold codes
  have hs : (⟨s.val / 32 * 32 + s.val % 32, by omega⟩ : Fin 4096) = s := Fin.ext (by show s.val / 32 * 32 + s.val % 32 = s.val; omega)
  exact congrArg (fun r => rCode (rW X S P i r ch) _) hs

theorem scales_eq :
    k0_pay6 (k0_pay8 X S) (k0_pay11 P) (k0_pay12 P) (Scf.fold (k0_pay4 (k0_pay8 X S) (k0_pay11 P) (k0_pay12 P)) k0_pay3) = scales X S P := by
  funext y
  obtain ⟨i, ch, b, rfl⟩ : ∃ i ch b, y = ix3 i ch b := ⟨y 0, y 1, y 2, (ix3_eta y).symm⟩
  rw [pay6_apply, e_apply]
  rfl

end

end Cert.ReferenceIdeal.Gen

end
-- ==== Proof.RefValue.lean ====
/- The reference's run: its two result arrays are the element formulas of its arguments. -/
module

public import proofs.«01_k».proof.Proof.RefPay
public import Idealize.ShloMosaic.Lib.Pipeline.Value
public import Idealize.ShloMosaic.Lib.Tactic

@[expose] public section

set_option maxRecDepth 16384

noncomputable section

namespace Cert.ReferenceIdeal.Gen

open Idealize.ShloMosaic Idealize.ShloMosaic.TcCoe Idealize.SL.Sem
open Idealize.ShloMosaic.Pipeline (Dat)

theorem hz3 : (![0, 0, 0] : Fin 3 → Nat) = fun _ => 0 := funext fun a => by fin_cases a <;> rfl

section
variable (c : Dev nD) (arg0 : Memref sig .tc .vmem S8x4096x2880 .fp8e4m3) (harg0 : arg0.IsWhole)
  (arg1 : Memref sig .tc .vmem S8x4096x90 .i8) (harg1 : arg1.IsWhole) (arg2 : Memref sig .tc .vmem S8x4096x2880 .bf16) (harg2 : arg2.IsWhole)
  (arg3 : Memref sig .tc .vmem S8x2880x4096 .fp8e4m3) (harg3 : arg3.IsWhole) (arg4 : Memref sig .tc .vmem S8x2880x128 .i8) (harg4 : arg4.IsWhole)
  (x0 : Vec Ideal S8x4096x2880 .fp8e4m3) (x1 : Vec Ideal S8x4096x90 .i8) (x2 : Vec Ideal S8x4096x2880 .bf16)

/-- The codes the body leaves. -/
theorem out3_eq : out0_A_3 (F := Ideal) c arg0 harg0 arg1 harg1 arg2 harg2 arg3 harg3 arg4 harg4 x0 x1 x2 = codes x0 x1 x2 := by
  rw [← codes_eq]
  unfold out0_A_3
  rw [View.read_writes_eq_canon _ _ _ (cover0_A_3 c arg0 harg0 arg1 harg1 arg2 harg2 arg3 harg3 arg4 harg4 x0 x1 x2)]
  unfold kernelRun0_A
  dsimp only
  sl_unfold_words
  rw [View.canon_unit_zero hz3]
  simp only [View.readAt_eq_ld, harg0.read_unread, harg1.read_unread, harg2.read_unread, View.ld_unit_zero (S := S8x4096x2880) hz3,
    View.ld_unit_zero (S := S8x4096x90) hz3]

/-- The scales the body leaves. -/
theorem out4_eq : out0_A_4 (F := Ideal) c arg0 harg0 arg1 harg1 arg2 harg2 arg3 harg3 arg4 harg4 x0 x1 x2 = scales x0 x1 x2 := by
  rw [← scales_eq]
  unfold out0_A_4
  rw [View.read_writes_eq_canon _ _ _ (cover0_A_4 c arg0 harg0 arg1 harg1 arg2 harg2 arg3 harg3 arg4 harg4 x0 x1 x2)]
  unfold kernelRun0_A
  dsimp only
  sl_unfold_words
  rw [View.canon_unit_zero hz3]
  simp only [View.readAt_eq_ld, harg0.read_unread, harg1.read_unread, harg2.read_unread, View.ld_unit_zero (S := S8x4096x2880) hz3,
    View.ld_unit_zero (S := S8x4096x90) hz3]

end

variable (m : (ℓ : Loc nD τ sig) → Buf (Elt Ideal) ℓ) (ρ : Dev nD → PrngReg)

theorem iblk0_eq (c : Dev nD) (t : Fin cfg0.N) : iblk m c 0 t = m ((c : Thread nD τ).loc main_arg0) := by
  have hz' : (fun a => win0_0.index t a * main_arg0.ty.shape.size a) = fun _ => 0 := funext fun a => by
    have h : ∀ t : Fin grid0.N, ∀ a, win0_0.index t a = 0 := by decide +kernel
    show win0_0.index t a * _ = 0
    rw [h t a, Nat.zero_mul]
  unfold iblk
  exact (Memref.read_access_unit_zero (Elt Ideal) main_arg0 hz' (fun a => by rw [congrFun hz' a]; simp) _).trans (V_main_arg0 m c)

theorem iblk1_eq (c : Dev nD) (t : Fin cfg0.N) : iblk m c 1 t = m ((c : Thread nD τ).loc main_arg1) := by
  have hz' : (fun a => win0_1.index t a * main_arg1.ty.shape.size a) = fun _ => 0 := funext fun a => by
    have h : ∀ t : Fin grid0.N, ∀ a, win0_1.index t a = 0 := by decide +kernel
    show win0_1.index t a * _ = 0
    rw [h t a, Nat.zero_mul]
  unfold iblk
  exact (Memref.read_access_unit_zero (Elt Ideal) main_arg1 hz' (fun a => by rw [congrFun hz' a]; simp) _).trans (V_main_arg1 m c)

theorem iblk2_eq (c : Dev nD) (t : Fin cfg0.N) : iblk m c 2 t = m ((c : Thread nD τ).loc main_arg2) := by
  have hz' : (fun a => win0_2.index t a * main_arg2.ty.shape.size a) = fun _ => 0 := funext fun a => by
    have h : ∀ t : Fin grid0.N, ∀ a, win0_2.index t a = 0 := by decide +kernel
    show win0_2.index t a * _ = 0
    rw [h t a, Nat.zero_mul]
  unfold iblk
  exact (Memref.read_access_unit_zero (Elt Ideal) main_arg2 hz' (fun a => by rw [congrFun hz' a]; simp) _).trans (V_main_arg2 m c)

/-- The codes of the launched arguments. -/
abbrev codesOf (c : Dev nD) : Buf (Elt Ideal) ((c : Thread nD τ).loc main_v0_0) :=
  codes (m ((c : Thread nD τ).loc main_arg0)) (m ((c : Thread nD τ).loc main_arg1)) (m ((c : Thread nD τ).loc main_arg2))

/-- The scales of the launched arguments. -/
abbrev scalesOf (c : Dev nD) : Buf (Elt Ideal) ((c : Thread nD τ).loc main_v0_1) :=
  scales (m ((c : Thread nD τ).loc main_arg0)) (m ((c : Thread nD τ).loc main_arg1)) (m ((c : Thread nD τ).loc main_arg2))

theorem flushed3_eq (c : Dev nD) (t : Fin cfg0.N) (hf : (cfg0.win 3).flush t = true) :
    (dats m 0 c).flushed 3 t = ((cfg0.win 3).blk t).view.read (Elt Ideal) (codesOf m c) := by
  have hz' : (fun a => win0_3.index t a * main_v0_0.ty.shape.size a) = fun _ => 0 := funext fun a => by
    have h : ∀ t : Fin grid0.N, ∀ a, win0_3.index t a = 0 := by decide +kernel
    show win0_3.index t a * _ = 0
    rw [h t a, Nat.zero_mul]
  show (cfg0.win 3).cut (grid0.coords t) ((dats m 0 c).after 3 t) = _
  rw [after0_3]
  dsimp only [outsAt0]
  rw [out3_eq, iblk0_eq, iblk1_eq, iblk2_eq]
  exact (Memref.read_access_unit_zero (Elt Ideal) main_v0_0 hz' (fun a => by rw [congrFun hz' a]; simp) (codesOf m c)).symm

theorem flushed4_eq (c : Dev nD) (t : Fin cfg0.N) (hf : (cfg0.win 4).flush t = true) :
    (dats m 0 c).flushed 4 t = ((cfg0.win 4).blk t).view.read (Elt Ideal) (scalesOf m c) := by
  have hz' : (fun a => win0_4.index t a * main_v0_1.ty.shape.size a) = fun _ => 0 := funext fun a => by
    have h : ∀ t : Fin grid0.N, ∀ a, win0_4.index t a = 0 := by decide +kernel
    show win0_4.index t a * _ = 0
    rw [h t a, Nat.zero_mul]
  show (cfg0.win 4).cut (grid0.coords t) ((dats m 0 c).after 4 t) = _
  rw [after0_4]
  dsimp only [outsAt0]
  rw [out4_eq, iblk0_eq, iblk1_eq, iblk2_eq]
  exact (Memref.read_access_unit_zero (Elt Ideal) main_v0_1 hz' (fun a => by rw [congrFun hz' a]; simp) (scalesOf m c)).symm

/-- The one point. -/
abbrev pt0 : Fin cfg0.N := ⟨0, by decide⟩

theorem final3 (c : Dev nD) : (dats m 0 c).arrAt 3 cfg0.N = codesOf m c :=
  (dats m 0 c).arrAt_eq_of_cover 3 (codesOf m c) (flushed3_eq m c) fun i =>
    ⟨pt0, by decide +kernel, by
      show i ∈ ((View.whole main_v0_0).slice (win0_3.rect pt0)).set
      rw [View.set_slice_whole, Rect.mem_set_unit]
      intro a
      show win0_3.index pt0 a * win0_3.size a ≤ (i a : ℕ) ∧ (i a : ℕ) < win0_3.index pt0 a * win0_3.size a + win0_3.xsize (grid0.coords pt0) a
      have h : ∀ a, win0_3.index pt0 a * win0_3.size a = 0 ∧ win0_3.xsize (grid0.coords pt0) a = main_v0_0.ty.shape.size a := by decide +kernel
      have hi := (i a).isLt
      exact ⟨by rw [(h a).1]; exact Nat.zero_le _, by rw [(h a).1, (h a).2, Nat.zero_add]; exact hi⟩⟩

theorem final4 (c : Dev nD) : (dats m 0 c).arrAt 4 cfg0.N = scalesOf m c :=
  (dats m 0 c).arrAt_eq_of_cover 4 (scalesOf m c) (flushed4_eq m c) fun i =>
    ⟨pt0, by decide +kernel, by
      show i ∈ ((View.whole main_v0_1).slice (win0_4.rect pt0)).set
      rw [View.set_slice_whole, Rect.mem_set_unit]
      intro a
      show win0_4.index pt0 a * win0_4.size a ≤ (i a : ℕ) ∧ (i a : ℕ) < win0_4.index pt0 a * win0_4.size a + win0_4.xsize (grid0.coords pt0) a
      have h : ∀ a, win0_4.index pt0 a * win0_4.size a = 0 ∧ win0_4.xsize (grid0.coords pt0) a = main_v0_1.ty.shape.size a := by decide +kernel
      have hi := (i a).isLt
      exact ⟨by rw [(h a).1]; exact Nat.zero_le _, by rw [(h a).1, (h a).2, Nat.zero_add]; exact hi⟩⟩

/-- The reference's run, its results read. -/
theorem run_value : θ_run defs (onTc (τ := τ) (main (F := Ideal))) ⟨m, fun _ => 0, ρ⟩ fun r => ∀ c : Dev nD,
      r.2.mem ((c : Thread nD τ).loc main_v0_0) = codesOf m c
      ∧ r.2.mem ((c : Thread nD τ).loc main_v0_1) = scalesOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩)
    (Cert.ReferenceIdeal.Value.run_blocks m ρ)

end Cert.ReferenceIdeal.Gen

end
-- ==== Proof.Algebra.lean ====
/- The value claim: on scale bytes between 1 and 254 the kernel and the reference leave equal codes and scales. -/
module

public import proofs.«01_k».proof.Defs
public import proofs.«01_k».proof.Proof.Gen.Pre_in_range
public import proofs.«01_k».proof.Proof.KernelValue
public import proofs.«01_k».proof.Proof.RefValue
public import Idealize.ShloMosaic.Lib.ReduceAll
public import Idealize.ShloMosaic.Lib.Affine

@[expose] public section

noncomputable section

namespace Cert.Proof

open Idealize.ShloMosaic Idealize.ShloMosaic.TcCoe Idealize.SL.Sem

/-- The printed precondition, read: every scale byte lies between 1 and 254. -/
theorem in_range_of (m : (ℓ : Loc Cert.KernelIdeal.nD Cert.KernelIdeal.τ Cert.KernelIdeal.sig) → Buf (Elt Ideal) ℓ)
    (h : Cert.Pre_KernelIdeal_in_range m) (c : Dev Cert.KernelIdeal.nD) : Cert.KernelIdeal.Gen.InRange m c := by
  intro i
  have e := congrFun (h c) ix0
  dsimp only [Cert.Pre_in_range.fn] at e
  haveI : Subsingleton Cert.Pre_in_range.S_.Idx := ⟨fun a b => funext fun k => k.elim0⟩
  obtain ⟨h1, h2⟩ := IntOp.andi_eq_one.1 (Host.reduce_andi_all _ _ _ _ _ e i)
  have h1' := IntOp.cmpi_uge.1 h1
  have h2' := IntOp.cmpi_ule.1 h2
  exact ⟨BitVec.le_def.2 h1', BitVec.le_def.2 h2'⟩

/-- The two runs leave equal codes and equal scales. -/
theorem algebraic : Cert.algebraic_KernelIdeal_ReferenceIdeal_pre_in_range := by
  intro m g m' g' hpre hargs
  refine ⟨Cert.KernelIdeal.Gen.codesOf m, Cert.KernelIdeal.Gen.scalesOf m,
    Cert.KernelIdeal.Gen.run_value g (in_range_of m hpre), ?_⟩
  refine (θ_run Cert.ReferenceIdeal.defs _ _).mono (fun r h c => ?_) (Cert.ReferenceIdeal.Gen.run_value m' g')
  obtain ⟨h3, h4, h0⟩ := h c
  obtain ⟨e0, e1, e2⟩ := hargs c
  refine ⟨h3.trans ?_, h4.trans ?_, h0⟩
  · show Cert.ReferenceIdeal.Gen.codes _ _ _ = Cert.ReferenceIdeal.Gen.codes _ _ _
    congr 1
  · show Cert.ReferenceIdeal.Gen.scales _ _ _ = Cert.ReferenceIdeal.Gen.scales _ _ _
    congr 1

end Cert.Proof

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Pre_in_range
public import proofs.«01_k».proof.Proof.KernelRun
public import proofs.«01_k».proof.Proof.Algebra
public import Idealize.ShloMosaic.Adequacy
public import Idealize.ShloMosaic.Init

@[expose] public section

noncomputable section

namespace Cert.Proof

open Idealize.ShloMosaic Idealize.SL.Sem Cert.Kernel

open Idealize.ShloMosaic in
/-- The kernel's and the reference's named constants denote the numbers they stand for. -/
theorem preserves : Cert.preserves_Kernel_KernelIdeal ∧ Cert.preserves_Reference_ReferenceIdeal :=
  ⟨⟨IdealRules.named_const.statement Cert.KernelIdeal.κ "gelu_ck" .f32 0x3D122279#32 ((35677408136300126361 / 1000000000000000000000 : ℝ) : EReal) rfl,
    IdealRules.named_const.statement Cert.KernelIdeal.κ "gelu_c" .f32 0x3F4C422A#32 ((3989422804014327 / 5000000000000000 : ℝ) : EReal) rfl,
    IdealRules.named_const.statement Cert.KernelIdeal.κ "gelu_3ck" .f32 0x3DDB33B6#32 ((107032224408900379083 / 1000000000000000000000 : ℝ) : EReal) rfl⟩,
   ⟨IdealRules.named_const.statement Cert.ReferenceIdeal.κ "gelu_k" .f32 0x3D372713#32 ((8943 / 200000 : ℝ) : EReal) rfl,
    IdealRules.named_const.statement Cert.ReferenceIdeal.κ "gelu_c" .f32 0x3F4C422A#32 ((3989422804014327 / 5000000000000000 : ℝ) : EReal) rfl,
    IdealRules.named_const.statement Cert.ReferenceIdeal.κ "gelu_3k" .f32 0x3E095D4F#32 ((26829 / 200000 : ℝ) : EReal) rfl⟩⟩

theorem claim : Cert.Claim := ⟨Cert.Kernel.Gen.facts, Cert.KernelIdeal.Gen.facts, Cert.ReferenceIdeal.Gen.facts, Cert.Reference.Gen.facts,
  Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Reference.Gen.frame m ρ,
  preserves.1, preserves.2, algebraic⟩

end Cert.Proof

end
